-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384 : Shape := ⟨1, ![16384]⟩
abbrev S100000x128 : Shape := ⟨2, ![100000, 128]⟩
abbrev S1025x1024 : Shape := ⟨2, ![1025, 1024]⟩
abbrev S1024 : Shape := ⟨1, ![1024]⟩
abbrev S1024x1024 : Shape := ⟨2, ![1024, 1024]⟩
abbrev S_ : Shape := ⟨0, ![]⟩

class Facts : Prop where
  bcast_S_S16384 : S_.BroadcastsInDim S16384 (![] : Fin 0 → Fin S16384.rank)

variable [Facts]

def fn_part2 {F : FTy → Type} [FloatOps F] (main_arg7 : IVec S16384 32) (main_v4 : IVec S16384 1) (main_v9 : IVec S16384 1) (main_v14 : IVec S16384 1) (main_v19 : IVec S16384 1) (main_v24 : IVec S16384 1) (main_v29 : IVec S16384 1) (main_v31 : IVec S16384 1) (main_v33 : IVec S16384 1) : IVec S16384 1 :=
  let main_v34 : IVec S16384 1 := andi main_v31 main_v33
  let main_c_13 : IVec S_ 32 := constantI S_ 32 0#32
  let main_v35 : IVec S16384 32 := broadcastInDim S16384 ![] bcast_S_S16384 main_c_13
  let main_v36 : IVec S16384 1 := cmpi .sge main_arg7 main_v35
  let main_c_14 : IVec S_ 32 := constantI S_ 32 100000#32
  let main_v37 : IVec S16384 32 := broadcastInDim S16384 ![] bcast_S_S16384 main_c_14
  let main_v38 : IVec S16384 1 := cmpi .slt main_arg7 main_v37
  let main_v39 : IVec S16384 1 := andi main_v36 main_v38
  let main_v40 : IVec S16384 1 := andi main_v4 main_v9
  let main_v41 : IVec S16384 1 := andi main_v40 main_v14
  let main_v42 : IVec S16384 1 := andi main_v41 main_v19
  let main_v43 : IVec S16384 1 := andi main_v42 main_v24
  let main_v44 : IVec S16384 1 := andi main_v43 main_v29
  let main_v45 : IVec S16384 1 := andi main_v44 main_v34
  let main_v46 : IVec S16384 1 := andi main_v45 main_v39
  main_v46

def fn_part1 {F : FTy → Type} [FloatOps F] (main_arg3 : IVec S16384 32) (main_arg4 : IVec S16384 32) (main_arg5 : IVec S16384 32) (main_arg6 : IVec S16384 32) (main_arg7 : IVec S16384 32) (main_v4 : IVec S16384 1) (main_v9 : IVec S16384 1) (main_v14 : IVec S16384 1) (main_v16 : IVec S16384 1) : IVec S16384 1 :=
  let main_c_6 : IVec S_ 32 := constantI S_ 32 100000#32
  let main_v17 : IVec S16384 32 := broadcastInDim S16384 ![] bcast_S_S16384 main_c_6
  let main_v18 : IVec S16384 1 := cmpi .slt main_arg3 main_v17
  let main_v19 : IVec S16384 1 := andi main_v16 main_v18
  let main_c_7 : IVec S_ 32 := constantI S_ 32 0#32
  let main_v20 : IVec S16384 32 := broadcastInDim S16384 ![] bcast_S_S16384 main_c_7
  let main_v21 : IVec S16384 1 := cmpi .sge main_arg4 main_v20
  let main_c_8 : IVec S_ 32 := constantI S_ 32 100000#32
  let main_v22 : IVec S16384 32 := broadcastInDim S16384 ![] bcast_S_S16384 main_c_8
  let main_v23 : IVec S16384 1 := cmpi .slt main_arg4 main_v22
  let main_v24 : IVec S16384 1 := andi main_v21 main_v23
  let main_c_9 : IVec S_ 32 := constantI S_ 32 0#32
  let main_v25 : IVec S16384 32 := broadcastInDim S16384 ![] bcast_S_S16384 main_c_9
  let main_v26 : IVec S16384 1 := cmpi .sge main_arg5 main_v25
  let main_c_10 : IVec S_ 32 := constantI S_ 32 100000#32
  let main_v27 : IVec S16384 32 := broadcastInDim S16384 ![] bcast_S_S16384 main_c_10
  let main_v28 : IVec S16384 1 := cmpi .slt main_arg5 main_v27
  let main_v29 : IVec S16384 1 := andi main_v26 main_v28
  let main_c_11 : IVec S_ 32 := constantI S_ 32 0#32
  let main_v30 : IVec S16384 32 := broadcastInDim S16384 ![] bcast_S_S16384 main_c_11
  let main_v31 : IVec S16384 1 := cmpi .sge main_arg6 main_v30
  let main_c_12 : IVec S_ 32 := constantI S_ 32 100000#32
  let main_v32 : IVec S16384 32 := broadcastInDim S16384 ![] bcast_S_S16384 main_c_12
  let main_v33 : IVec S16384 1 := cmpi .slt main_arg6 main_v32
  fn_part2 (F := F) main_arg7 main_v4 main_v9 main_v14 main_v19 main_v24 main_v29 main_v31 main_v33

def fn {F : FTy → Type} [FloatOps F] (main_arg0 : IVec S16384 32) (main_arg1 : IVec S16384 32) (main_arg2 : IVec S16384 32) (main_arg3 : IVec S16384 32) (main_arg4 : IVec S16384 32) (main_arg5 : IVec S16384 32) (main_arg6 : IVec S16384 32) (main_arg7 : IVec S16384 32) (main_arg8 : FVec F S16384 .f32) (main_arg9 : FVec F S100000x128 .f32) (main_arg10 : FVec F S100000x128 .f32) (main_arg11 : FVec F S100000x128 .f32) (main_arg12 : FVec F S100000x128 .f32) (main_arg13 : FVec F S100000x128 .f32) (main_arg14 : FVec F S100000x128 .f32) (main_arg15 : FVec F S100000x128 .f32) (main_arg16 : FVec F S100000x128 .f32) (main_arg17 : FVec F S1025x1024 .f32) (main_arg18 : FVec F S1024 .f32) (main_arg19 : FVec F S1024x1024 .f32) (main_arg20 : FVec F S1024 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_c_2 : IVec S_ 32 := constantI S_ 32 100000#32
  let main_v7 : IVec S16384 32 := broadcastInDim S16384 ![] bcast_S_S16384 main_c_2
  let main_v8 : IVec S16384 1 := cmpi .slt main_arg1 main_v7
  let main_v9 : IVec S16384 1 := andi main_v6 main_v8
  let main_c_3 : IVec S_ 32 := constantI S_ 32 0#32
  let main_v10 : IVec S16384 32 := broadcastInDim S16384 ![] bcast_S_S16384 main_c_3
  let main_v11 : IVec S16384 1 := cmpi .sge main_arg2 main_v10
  let main_c_4 : IVec S_ 32 := constantI S_ 32 100000#32
  let main_v12 : IVec S16384 32 := broadcastInDim S16384 ![] bcast_S_S16384 main_c_4
  let main_v13 : IVec S16384 1 := cmpi .slt main_arg2 main_v12
  let main_v14 : IVec S16384 1 := andi main_v11 main_v13
  let main_c_5 : IVec S_ 32 := constantI S_ 32 0#32
  let main_v15 : IVec S16384 32 := broadcastInDim S16384 ![] bcast_S_S16384 main_c_5
  let main_v16 : IVec S16384 1 := cmpi .sge main_arg3 main_v15
  fn_part1 (F := F) main_arg3 main_arg4 main_arg5 main_arg6 main_arg7 main_v4 main_v9 main_v14 main_v16
-- ==== Kernel.lean ====
abbrev S16384 : Shape := ⟨1, ![16384]⟩
abbrev S100000x128 : Shape := ⟨2, ![100000, 128]⟩
abbrev S1025x1024 : Shape := ⟨2, ![1025, 1024]⟩
abbrev S1024 : Shape := ⟨1, ![1024]⟩
abbrev S1024x1024 : Shape := ⟨2, ![1024, 1024]⟩
abbrev S128x128 : Shape := ⟨2, ![128, 128]⟩
abbrev S16384x1024 : Shape := ⟨2, ![16384, 1024]⟩
abbrev S4x128 : Shape := ⟨2, ![4, 128]⟩
abbrev S512x128 : Shape := ⟨2, ![512, 128]⟩
abbrev S_ : Shape := ⟨0, ![]⟩
abbrev S1x128 : Shape := ⟨2, ![1, 128]⟩
abbrev S128 : Shape := ⟨1, ![128]⟩
abbrev S1x1024 : Shape := ⟨2, ![1, 1024]⟩
abbrev S16384x1 : Shape := ⟨2, ![16384, 1]⟩
abbrev S512x1024 : Shape := ⟨2, ![512, 1024]⟩
abbrev S512x1 : Shape := ⟨2, ![512, 1]⟩

abbrev nBuf : Table → Nat
  | .hbm => 38
  | .local .tc .vmem => 11
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .f32⟩
  | .hbm, ⟨9, _⟩ => ⟨S100000x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S1025x1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S128x128, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S16384x1024, .f32⟩
  | .hbm, ⟨30, _⟩ => ⟨S1024x1024, .f32⟩
  | .hbm, ⟨31, _⟩ => ⟨S1024x1024, .bf16⟩
  | .hbm, ⟨32, _⟩ => ⟨S1x1024, .f32⟩
  | .hbm, ⟨33, _⟩ => ⟨S16384x1, .f32⟩
  | .hbm, ⟨34, _⟩ => ⟨S1x1024, .f32⟩
  | .hbm, ⟨35, _⟩ => ⟨S1024x1024, .bf16⟩
  | .hbm, ⟨36, _⟩ => ⟨S1x1024, .f32⟩
  | .hbm, ⟨37, _⟩ => ⟨S16384x1024, .f32⟩
  | .local .tc .vmem, ⟨0, _⟩ => ⟨S512x1024, .f32⟩
  | .local .tc .vmem, ⟨1, _⟩ => ⟨S512x1024, .f32⟩
  | .local .tc .vmem, ⟨2, _⟩ => ⟨S512x1, .f32⟩
  | .local .tc .vmem, ⟨3, _⟩ => ⟨S512x1, .f32⟩
  | .local .tc .vmem, ⟨4, _⟩ => ⟨S1024x1024, .bf16⟩
  | .local .tc .vmem, ⟨5, _⟩ => ⟨S1x1024, .f32⟩
  | .local .tc .vmem, ⟨6, _⟩ => ⟨S1x1024, .f32⟩
  | .local .tc .vmem, ⟨7, _⟩ => ⟨S1024x1024, .bf16⟩
  | .local .tc .vmem, ⟨8, _⟩ => ⟨S1x1024, .f32⟩
  | .local .tc .vmem, ⟨9, _⟩ => ⟨S512x1024, .f32⟩
  | .local .tc .vmem, ⟨10, _⟩ => ⟨S512x1024, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v0_scv : Ref sig .scVector := ⟨.hbm, 21, rfl⟩
abbrev main_v1_scv : Ref sig .scVector := ⟨.hbm, 22, rfl⟩
abbrev main_v2_scv : Ref sig .scVector := ⟨.hbm, 23, rfl⟩
abbrev main_v3_scv : Ref sig .scVector := ⟨.hbm, 24, rfl⟩
abbrev main_v4_scv : Ref sig .scVector := ⟨.hbm, 25, rfl⟩
abbrev main_v5_scv : Ref sig .scVector := ⟨.hbm, 26, rfl⟩
abbrev main_v6_scv : Ref sig .scVector := ⟨.hbm, 27, rfl⟩
abbrev main_v7_scv : Ref sig .scVector := ⟨.hbm, 28, rfl⟩
abbrev main_arg9_scv : Ref sig .scVector := ⟨.hbm, 9, rfl⟩
abbrev main_arg10_scv : Ref sig .scVector := ⟨.hbm, 10, rfl⟩
abbrev main_arg11_scv : Ref sig .scVector := ⟨.hbm, 11, rfl⟩
abbrev main_arg12_scv : Ref sig .scVector := ⟨.hbm, 12, rfl⟩
abbrev main_arg13_scv : Ref sig .scVector := ⟨.hbm, 13, rfl⟩
abbrev main_arg14_scv : Ref sig .scVector := ⟨.hbm, 14, rfl⟩
abbrev main_arg15_scv : Ref sig .scVector := ⟨.hbm, 15, rfl⟩
abbrev main_arg16_scv : Ref sig .scVector := ⟨.hbm, 16, rfl⟩
abbrev main_v8_scv : Ref sig .scVector := ⟨.hbm, 29, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_378_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_378_r1 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_378_r3 : BitVec 32 := 128#32
  ![v2.toNat, 128]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_378_r5 : BitVec 32 := 256#32
  ![v2.toNat, 256]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32_378_r7 : BitVec 32 := 384#32
  ![v2.toNat, 384]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c512_i32_378_r9 : BitVec 32 := 512#32
  ![v2.toNat, 512]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c640_i32_r11 : BitVec 32 := 640#32
  ![v2.toNat, 640]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c768_i32_r13 : BitVec 32 := 768#32
  ![v2.toNat, 768]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c896_i32_r15 : BitVec 32 := 896#32
  ![v2.toNat, 896]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S1025x1024 : Shape := ⟨2, ![1025, 1024]⟩
abbrev S1024 : Shape := ⟨1, ![1024]⟩
abbrev S1024x1024 : Shape := ⟨2, ![1024, 1024]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x1025 : Shape := ⟨2, ![16384, 1025]⟩
abbrev S16384x1024 : Shape := ⟨2, ![16384, 1024]⟩
abbrev S1x1024 : Shape := ⟨2, ![1, 1024]⟩

abbrev nBuf : Space → Nat
  | .hbm => 221
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .i32⟩
  | 8 => ⟨S16384, .f32⟩
  | 9 => ⟨S100000x128, .f32⟩
  | 10 => ⟨S100000x128, .f32⟩
  | 11 => ⟨S100000x128, .f32⟩
  | 12 => ⟨S100000x128, .f32⟩
  | 13 => ⟨S100000x128, .f32⟩
  | 14 => ⟨S100000x128, .f32⟩
  | 15 => ⟨S100000x128, .f32⟩
  | 16 => ⟨S100000x128, .f32⟩
  | 17 => ⟨S1025x1024, .f32⟩
  | 18 => ⟨S1024, .f32⟩
  | 19 => ⟨S1024x1024, .f32⟩
  | 20 => ⟨S1024, .f32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S1, .i32⟩
  | 30 => ⟨S_, .i32⟩
  | 31 => ⟨S16384x1, .i32⟩
  | 32 => ⟨S16384x1, .i1⟩
  | 33 => ⟨S1x1, .i32⟩
  | 34 => ⟨S16384x1, .i32⟩
  | 35 => ⟨S16384x1, .i1⟩
  | 36 => ⟨S16384x1, .i1⟩
  | 37 => ⟨S_, .i1⟩
  | 38 => ⟨S16384, .i1⟩
  | 39 => ⟨S16384x128, .f32⟩
  | 40 => ⟨S16384x128, .i1⟩
  | 41 => ⟨S_, .f32⟩
  | 42 => ⟨S16384x128, .f32⟩
  | 43 => ⟨S16384x128, .f32⟩
  | 44 => ⟨S_, .i32⟩
  | 45 => ⟨S16384, .i32⟩
  | 46 => ⟨S16384, .i1⟩
  | 47 => ⟨S_, .i32⟩
  | 48 => ⟨S16384, .i32⟩
  | 49 => ⟨S16384, .i32⟩
  | 50 => ⟨S16384, .i32⟩
  | 51 => ⟨S16384x1, .i32⟩
  | 52 => ⟨S1, .i32⟩
  | 53 => ⟨S_, .i32⟩
  | 54 => ⟨S16384x1, .i32⟩
  | 55 => ⟨S16384x1, .i1⟩
  | 56 => ⟨S1x1, .i32⟩
  | 57 => ⟨S16384x1, .i32⟩
  | 58 => ⟨S16384x1, .i1⟩
  | 59 => ⟨S16384x1, .i1⟩
  | 60 => ⟨S_, .i1⟩
  | 61 => ⟨S16384, .i1⟩
  | 62 => ⟨S16384x128, .f32⟩
  | 63 => ⟨S16384x128, .i1⟩
  | 64 => ⟨S_, .f32⟩
  | 65 => ⟨S16384x128, .f32⟩
  | 66 => ⟨S16384x128, .f32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x128, .f32⟩
  | 86 => ⟨S16384x128, .i1⟩
  | 87 => ⟨S_, .f32⟩
  | 88 => ⟨S16384x128, .f32⟩
  | 89 => ⟨S16384x128, .f32⟩
  | 90 => ⟨S_, .i32⟩
  | 91 => ⟨S16384, .i32⟩
  | 92 => ⟨S16384, .i1⟩
  | 93 => ⟨S_, .i32⟩
  | 94 => ⟨S16384, .i32⟩
  | 95 => ⟨S16384, .i32⟩
  | 96 => ⟨S16384, .i32⟩
  | 97 => ⟨S16384x1, .i32⟩
  | 98 => ⟨S1, .i32⟩
  | 99 => ⟨S_, .i32⟩
  | 100 => ⟨S16384x1, .i32⟩
  | 101 => ⟨S16384x1, .i1⟩
  | 102 => ⟨S1x1, .i32⟩
  | 103 => ⟨S16384x1, .i32⟩
  | 104 => ⟨S16384x1, .i1⟩
  | 105 => ⟨S16384x1, .i1⟩
  | 106 => ⟨S_, .i1⟩
  | 107 => ⟨S16384, .i1⟩
  | 108 => ⟨S16384x128, .f32⟩
  | 109 => ⟨S16384x128, .i1⟩
  | 110 => ⟨S_, .f32⟩
  | 111 => ⟨S16384x128, .f32⟩
  | 112 => ⟨S16384x128, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S1, .i32⟩
  | 122 => ⟨S_, .i32⟩
  | 123 => ⟨S16384x1, .i32⟩
  | 124 => ⟨S16384x1, .i1⟩
  | 125 => ⟨S1x1, .i32⟩
  | 126 => ⟨S16384x1, .i32⟩
  | 127 => ⟨S16384x1, .i1⟩
  | _ => ⟨S16384, .i32⟩

abbrev hbmTy0_1 (i : Nat) : BufTy := match i % 128 with
  | 0 => ⟨S16384x1, .i1⟩
  | 1 => ⟨S_, .i1⟩
  | 2 => ⟨S16384, .i1⟩
  | 3 => ⟨S16384x128, .f32⟩
  | 4 => ⟨S16384x128, .i1⟩
  | 5 => ⟨S_, .f32⟩
  | 6 => ⟨S16384x128, .f32⟩
  | 7 => ⟨S16384x128, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S1, .i32⟩
  | 17 => ⟨S_, .i32⟩
  | 18 => ⟨S16384x1, .i32⟩
  | 19 => ⟨S16384x1, .i1⟩
  | 20 => ⟨S1x1, .i32⟩
  | 21 => ⟨S16384x1, .i32⟩
  | 22 => ⟨S16384x1, .i1⟩
  | 23 => ⟨S16384x1, .i1⟩
  | 24 => ⟨S_, .i1⟩
  | 25 => ⟨S16384, .i1⟩
  | 26 => ⟨S16384x128, .f32⟩
  | 27 => ⟨S16384x128, .i1⟩
  | 28 => ⟨S_, .f32⟩
  | 29 => ⟨S16384x128, .f32⟩
  | 30 => ⟨S16384x128, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x128, .f32⟩
  | 50 => ⟨S16384x128, .i1⟩
  | 51 => ⟨S_, .f32⟩
  | 52 => ⟨S16384x128, .f32⟩
  | 53 => ⟨S16384x128, .f32⟩
  | 54 => ⟨S_, .i32⟩
  | 55 => ⟨S16384, .i32⟩
  | 56 => ⟨S16384, .i1⟩
  | 57 => ⟨S_, .i32⟩
  | 58 => ⟨S16384, .i32⟩
  | 59 => ⟨S16384, .i32⟩
  | 60 => ⟨S16384, .i32⟩
  | 61 => ⟨S16384x1, .i32⟩
  | 62 => ⟨S1, .i32⟩
  | 63 => ⟨S_, .i32⟩
  | 64 => ⟨S16384x1, .i32⟩
  | 65 => ⟨S16384x1, .i1⟩
  | 66 => ⟨S1x1, .i32⟩
  | 67 => ⟨S16384x1, .i32⟩
  | 68 => ⟨S16384x1, .i1⟩
  | 69 => ⟨S16384x1, .i1⟩
  | 70 => ⟨S_, .i1⟩
  | 71 => ⟨S16384, .i1⟩
  | 72 => ⟨S16384x128, .f32⟩
  | 73 => ⟨S16384x128, .i1⟩
  | 74 => ⟨S_, .f32⟩
  | 75 => ⟨S16384x128, .f32⟩
  | 76 => ⟨S16384x128, .f32⟩
  | 77 => ⟨S16384x1, .f32⟩
  | 78 => ⟨S16384x1025, .f32⟩
  | 79 => ⟨S16384x1024, .f32⟩
  | 80 => ⟨S1x1024, .f32⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S16384x1024, .f32⟩
  | 87 => ⟨S1x1024, .f32⟩
  | 88 => ⟨S16384x1024, .f32⟩
  | 89 => ⟨S16384x1024, .f32⟩
  | 90 => ⟨S_, .f32⟩
  | 91 => ⟨S16384x1024, .f32⟩
  | 92 => ⟨S16384x1024, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v1 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v2 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v3 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v4 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_v14 : Ref sig .tc := ⟨.hbm, 155, rfl⟩
abbrev main_call5_cst : Ref sig .tc := ⟨.hbm, 156, rfl⟩
abbrev main_call5_v15 : Ref sig .tc := ⟨.hbm, 157, rfl⟩
abbrev main_v5 : Ref sig .tc := ⟨.hbm, 158, rfl⟩
abbrev main_call6_c : Ref sig .tc := ⟨.hbm, 159, rfl⟩
abbrev main_call6_v0 : Ref sig .tc := ⟨.hbm, 160, rfl⟩
abbrev main_call6_v1 : Ref sig .tc := ⟨.hbm, 161, rfl⟩
abbrev main_call6_c_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_c_1 : Ref sig .tc := ⟨.hbm, 167, rfl⟩
abbrev main_call6_c_2 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_3 : Ref sig .tc := ⟨.hbm, 175, rfl⟩
abbrev main_call6_v12 : Ref sig .tc := ⟨.hbm, 176, rfl⟩
abbrev main_call6_v13 : Ref sig .tc := ⟨.hbm, 177, rfl⟩
abbrev main_call6_v14 : Ref sig .tc := ⟨.hbm, 178, rfl⟩
abbrev main_call6_cst : Ref sig .tc := ⟨.hbm, 179, rfl⟩
abbrev main_call6_v15 : Ref sig .tc := ⟨.hbm, 180, rfl⟩
abbrev main_v6 : Ref sig .tc := ⟨.hbm, 181, rfl⟩
abbrev main_call7_c : Ref sig .tc := ⟨.hbm, 182, rfl⟩
abbrev main_call7_v0 : Ref sig .tc := ⟨.hbm, 183, rfl⟩
abbrev main_call7_v1 : Ref sig .tc := ⟨.hbm, 184, rfl⟩
abbrev main_call7_c_0 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_call7_v5 : Ref sig .tc := ⟨.hbm, 189, rfl⟩
abbrev main_call7_c_1 : Ref sig .tc := ⟨.hbm, 190, rfl⟩
abbrev main_call7_c_2 : Ref sig .tc := ⟨.hbm, 191, rfl⟩
abbrev main_call7_v6 : Ref sig .tc := ⟨.hbm, 192, rfl⟩
abbrev main_call7_v7 : Ref sig .tc := ⟨.hbm, 193, rfl⟩
abbrev main_call7_v8 : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_c_3 : Ref sig .tc := ⟨.hbm, 198, rfl⟩
abbrev main_call7_v12 : Ref sig .tc := ⟨.hbm, 199, rfl⟩
abbrev main_call7_v13 : Ref sig .tc := ⟨.hbm, 200, rfl⟩
abbrev main_call7_v14 : Ref sig .tc := ⟨.hbm, 201, rfl⟩
abbrev main_call7_cst : Ref sig .tc := ⟨.hbm, 202, rfl⟩
abbrev main_call7_v15 : Ref sig .tc := ⟨.hbm, 203, rfl⟩
abbrev main_v7 : Ref sig .tc := ⟨.hbm, 204, rfl⟩
abbrev main_v8 : Ref sig .tc := ⟨.hbm, 205, rfl⟩
abbrev main_v9 : Ref sig .tc := ⟨.hbm, 206, rfl⟩
abbrev main_v10 : Ref sig .tc := ⟨.hbm, 207, rfl⟩
abbrev main_v11 : Ref sig .tc := ⟨.hbm, 208, rfl⟩
abbrev main_v12 : Ref sig .tc := ⟨.hbm, 209, rfl⟩
abbrev main_v13 : Ref sig .tc := ⟨.hbm, 210, rfl⟩
abbrev main_cst : Ref sig .tc := ⟨.hbm, 211, rfl⟩
abbrev main_v14 : Ref sig .tc := ⟨.hbm, 212, rfl⟩
abbrev main_v15 : Ref sig .tc := ⟨.hbm, 213, rfl⟩
abbrev main_v16 : Ref sig .tc := ⟨.hbm, 214, rfl⟩
abbrev main_v17 : Ref sig .tc := ⟨.hbm, 215, rfl⟩
abbrev main_v18 : Ref sig .tc := ⟨.hbm, 216, rfl⟩
abbrev main_v19 : Ref sig .tc := ⟨.hbm, 217, rfl⟩
abbrev main_cst_0 : Ref sig .tc := ⟨.hbm, 218, rfl⟩
abbrev main_v20 : Ref sig .tc := ⟨.hbm, 219, rfl⟩
abbrev main_v21 : Ref sig .tc := ⟨.hbm, 220, rfl⟩

abbrev nD : Nat := 1
abbrev τ : Topo := Topo.v7x

variable {F : FTy → Type} [FloatOps F]
-- ==== Proof.Gathers.lean ====
/-
  Several indirect gathers started on ONE semaphore before any of them is waited for. Each row of each gather is
  one transfer of a counted batch on the semaphore's cell: the rows all credit the same number of units, the waits
  are sized to whole gathers, and the deliveries are collected once every unit has been consumed.
-/
module

public import Idealize.ShloMosaic.Lib.SparseCore.Stream
public import Idealize.ShloMosaic.Lib.Batch

@[expose] public section

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

/-! ## The issue rights of a run of transfers -/

section Pending

variable {M : Type} [URA M] {n : ℕ}

/-- The transfers pending from `j` are the next `o` of them and those pending from `j + o`. -/
theorem bigSep_pending_add (Φ : Fin n → sProp M) (j o : ℕ) (h : j + o ≤ n) :
    bigSep (Transfers.pending j) Φ = iprop((bigSep Finset.univ fun k : Fin o => Φ ⟨j + k.val, by omega⟩) ∗ bigSep (Transfers.pending (j + o)) Φ) := by
  classical
  let e : Fin o ↪ Fin n := ⟨fun k => ⟨j + k.val, by omega⟩, fun a b hab => Fin.ext (by have h := congrArg Fin.val hab; dsimp only at h; omega)⟩
  have hs : Transfers.pending (n := n) j = Finset.univ.map e ∪ Transfers.pending (j + o) := by
    ext t
    simp only [Transfers.pending, Finset.mem_filter, Finset.mem_univ, _root_.true_and, Finset.mem_union, Finset.mem_map, e, Function.Embedding.coeFn_mk]
    constructor
    · intro ht
      by_cases h' : j + o ≤ t.val
      · exact .inr h'
      · exact .inl ⟨⟨t.val - j, by omega⟩, Fin.ext (by change j + (t.val - j) = t.val; omega)⟩
    · rintro (⟨k, rfl⟩ | ht)
      · exact Nat.le_add_right j k.val
      · omega
  have hd : Disjoint (Finset.univ.map e) (Transfers.pending (n := n) (j + o)) := by
    refine Finset.disjoint_left.mpr fun t ht ht' => ?_
    simp only [Transfers.pending, Finset.mem_filter, Finset.mem_univ, _root_.true_and, Finset.mem_map, e, Function.Embedding.coeFn_mk] at ht ht'
    obtain ⟨k, rfl⟩ := ht
    have := k.isLt; change j + o ≤ j + k.val at ht'; omega
  rw [hs, BI.bigSep_union hd, BI.bigSep_map]; rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## What one row of a gather delivers -/

/-- Entry `k` of an offset list of `o` words, as an index of the list. -/
abbrev entryIx {o : ℕ} (hn : si.numel = o) (k : Fin o) : si.Idx := si.rowMajor.symm (k.cast hn.symm)

/-- Row `k`'s delivery: row `k` of the destination written with the source's row that entry `k` names, the entry's
    share of the list and the row's piece of the source's share. -/
def rowDel (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) : sProp 𝕄 :=
  iprop(((dst.view.loc c ↦[(dst.view.slice (s.rowRect hg.axis' k)).set]{fullShare}
        ((dst.view.slice (s.rowRect hg.axis' k)).write (Elt F) fd
          (fun i => src.view.read (Elt F) fs (hg.rowIdx (rows (offs.view.read (Elt F) fo) hn hin k) i)) Finset.univ))
      ∗ (offs.view.loc c ↦[{offs.view.emb (entryIx hn k)}]{qo} fo))
    ∗ (src.view.loc c ↦[src.view.set]{pieceOf q _ ho k} fs))

instance rowDel_storable (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) :
    Storable (upEmb : UEmb _ 𝕄) (rowDel (Ix := Ix) (Name := Name) (U := U) (Lvl := Lvl) c src dst hg offs hn ho q qo fs fd fo hin k) := by
  unfold rowDel; infer_instance

/-- All the rows' deliveries: the destination written with the gather's payload, the list's and the source's shares whole. -/
theorem rowDels_join {src : Memref sig c.2.kind sp s₀ e} {dst : Memref sig c.2.kind .vmem s e} {hg : s₀.Gathers a s}
    {offs : Memref sig c.2.kind .vmem si .i32} {hn : si.numel = s.size hg.axis'} {ho : 0 < s.size hg.axis'} {q qo : PosShare TreeShare}
    {fs : Buf (Elt F) (src.view.loc c)} {fd : Buf (Elt F) (dst.view.loc c)} {fo : Buf (Elt F) (offs.view.loc c)}
    {hin : ∀ x, (offs.view.read (Elt F) fo x).toNat < s₀.size hg.axis} :
    (bigSep Finset.univ (rowDel c src dst hg offs hn ho q qo fs fd fo hin) : sProp 𝕄)
      ⊢ iprop((dst.view.loc c ↦[dst.view.set]{fullShare}
                (dst.view.write (Elt F) fd (gatherPayload hg (src.view.read (Elt F) fs) (rows (offs.view.read (Elt F) fo) hn hin)) Finset.univ))
          ∗ (offs.view.loc c ↦[offs.view.set]{qo} fo) ∗ (src.view.loc c ↦[src.view.set]{q} fs)) := by
  have hen : Function.Bijective (entryIx (si := si) hn) := si.rowMajor.symm.bijective.comp (finCongr hn.symm).bijective
  have hd := pointsTo_rows_write (Ix := Ix) (Name := Name) (U := U) (Lvl := Lvl) c dst.view hg.axis' fd
      (fun k i => src.view.read (Elt F) fs (hg.rowIdx (rows (offs.view.read (Elt F) fo) hn hin k) i))
      (gatherPayload hg (src.view.read (Elt F) fs) (rows (offs.view.read (Elt F) fo) hn hin))
      (fun k i => by unfold gatherPayload; rw [Shape.Gathers.idx_rowRect_emb])
  unfold rowDel
  iintro H
  ihave H1 := Transfers.bigSep_sep_out _ _ _ $$ H
  icases H1 with ⟨H2, Hs⟩
  ihave H3 := Transfers.bigSep_sep_out _ _ _ $$ H2
  icases H3 with ⟨Hd, Ho⟩
  isplitl [Hd]
  · iapply hd; iexact Hd
  isplitl [Ho]; · iapply (Entails.of_eq (pointsTo_entries c offs.view (entryIx hn) hen qo fo).symm) $$ Ho
  iapply (Entails.of_eq (pointsTo_piecesOf src.view.set fs ho q).symm) $$ Hs

/-! ## Starting a gather whose rows are the batch's next transfers -/

/-- A gather started while the batch on its cell has `j` transfers issued: its `o` rows are the batch's transfers
    `j, …, j + o - 1`, each crediting `N`, row `k` delivering what the batch states of transfer `j + k`. -/
theorem wp_gatherBatch [Infinite Name] [EC.LandsIn (upEmb : UEmb _ 𝕄)] {n : ℕ} {D : Fin n → sProp 𝕄} {j u N : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (o : ℕ) (hso : s.size hg.axis' = o) (hN : ∀ i, (dst.slice (s.rowRect hg.axis' i) (s.stride_rowRect hg.axis' i)).view.dmaCredit = N)
    (ho : 0 < s.size hg.axis') (hin : ∀ x, (offs.view.read (Elt F) fo x).toNat < s₀.size hg.axis) (hj : j + o ≤ n) (hu : u ≤ j * N)
    (hD : ∀ (i : Fin (s.size hg.axis')) (h : j + i.val < n), rowDel c src dst hg offs hn ho q qo fs fd fo hin i ⊢ D ⟨j + i.val, h⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + o) u -∗ wp frame (wpE defs 𝒱 c bd) Set.univ (k ⟨⟩) Q)
          -∗ wp frame (wpE defs 𝒱 c bd) Set.univ (enqueueIndirectGather hp src dst hg offs hn sem hsrc he hsp hr >>= k) Q) := by
  subst hso
  rw [enqueueIndirectGather_bind]
  let S : Stream nD τ sig (Elt F) :=
    Stream.issued c offs.view hn sem (fun i w => (rowOf (s₀.size hg.axis) w).map (gatherRow c src dst hg sem hsrc he hsp hr i)) 0
  let rd : Fin (s.size hg.axis') → RowDma τ sig (Elt F) c.2 sem := fun i =>
    gatherRow c src dst hg sem hsrc he hsp hr i (rows (offs.view.read (Elt F) fo) hn hin i)
  have hA : S.RowsAgree := fun i x x' ρ ρ' h h' => by
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (entryIx hn i))).map _ = _
    rw [rowOf_of_lt (hin _)]; rfl
  have hen : Function.Bijective (entryIx (si := si) hn) := si.rowMajor.symm.bijective.comp (finCongr hn.symm).bijective
  have hsum : ∑ i, (rd i).dst.view.dmaCredit = s.size hg.axis' * N := sum_rowCredit_eq _ hN rfl
  unfold Transfers.Batch
  iintro ⟨Hs, Hd, Ho, ⟨%γ, %γ₀, %κ, #Hinv, HI, H0, Hcred⟩⟩ Hk
  ihave HI' := (Entails.of_eq (bigSep_pending_add (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view (entryIx hn) hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i : Fin (s.size hg.axis'), iprop(inv κ (Transfers.batchBody EC (c, SemLoc.dma sem) N D γ γ₀)
          ∗ ((((dst.view.loc c ↦[(dst.view.slice (s.rowRect hg.axis' i)).set]{fullShare} fd) ∗ (offs.view.loc c ↦[{offs.view.emb (entryIx hn i)}]{qo} fo))
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd
          (fun x => src.view.read (Elt F) fs (hg.rowIdx (rows (offs.view.read (Elt F) fo) hn hin i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hcr := Transfers.batch_creditUpdate EC (g := (c, SemLoc.dma sem)) (N := N) (γ := γ) (γ₀ := γ₀) (ι := κ) ⟨j + i.val, by omega⟩ (hD i (by omega))
        have hami : (rd i).dst.view.amount (SemLoc.dma sem) = N := hN i
        rw [hami]
        iapply hcr
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof
-- ==== Proof.Setup.lean ====
/-
  The program as the launch theorem sees it: the SparseCore call's configuration, the body tables, and the resource
  algebra — the handshakes' rounds, the pipeline's rounds, the transfers' counters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Launch
public import proofs.«01_k».proof.Proof.Gathers

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The machine's algebra at this program. -/
abbrev 𝕄M (F : FTy → Type) : Type := MT nD τ sig (HIx 1) (Elt F) ℕ UU ℕ

abbrev EH : Emb UH (𝕄M F) := embL
abbrev ER : Emb (UP × Counters) (𝕄M F) := embR
abbrev EP : Emb UP (𝕄M F) := (Emb.inl : Emb UP (UP × Counters)).trans ER

instance : (EP (F := F)).LandsIn (upEmb : UEmb _ (𝕄M F)) := by unfold EP ER; infer_instance
instance : (EH (F := F)).LandsIn (upEmb : UEmb _ (𝕄M F)) := by unfold EH; infer_instance

/-- A tile's coordinates in the machine. -/
abbrev cV (L : grid0.Coords) : Fin τ.nSC := (L 0).castLE hcore0
abbrev jV (L : grid0.Coords) : Fin τ.nSub := (L 1).castLE hsub0

/-! ## One feature of the gather kernel, and the kernel as eight of them -/

variable [FloatOps F]

section Prog

variable (L : grid0.Coords) (cats : Memref sig .scVector .hbm S128x128 .i32) (tab : Memref sig .scVector .hbm S100000x128 .f32)
  (out : Memref sig .scVector .hbm S16384x1024 .f32) (idx : Memref sig .scVector .vmem S4x128 .i32) (hidx : idx.IsWhole)
  (rows : Memref sig .scVector .vmem S512x128 .f32) (hrows : rows.IsWhole)

/-- The tile's four rows of a feature's index array. -/
abbrev catsS : Memref sig .scVector .hbm S4x128 .i32 :=
  cats.slice (Rect.unit (s := S128x128) (k0_off1 L) S4x128.size (k0_off1_inb L)) (fun _ => rfl)
/-- All of a feature's table. -/
abbrev tabS : Memref sig .scVector .hbm S100000x128 .f32 :=
  tab.slice (Rect.unit (s := S100000x128) ![0, 0] S100000x128.size inb_S100000x128_S100000x128_0_0) (fun _ => rfl)
theorem dst_inb (c : Fin 4) : ∀ a, (![128 * c.val, 0] : Fin 2 → Nat) a + S128x128.size a ≤ S512x128.size a := by
  revert c; decide
theorem offs_inb (c : Fin 4) : ∀ a, (![c.val, 0] : Fin 2 → Nat) a + S1x128.size a ≤ S4x128.size a := by
  revert c; decide
/-- Gather `c`'s 128 rows of the row scratch. -/
abbrev dstC (c : Fin 4) : Memref sig .scVector .vmem S128x128 .f32 :=
  rows.slice (Rect.unit (s := S512x128) ![128 * c.val, 0] S128x128.size (dst_inb c)) (fun _ => rfl)
/-- Gather `c`'s list: row `c` of the index scratch. -/
abbrev offsC (c : Fin 4) : Memref sig .scVector .vmem S128 .i32 :=
  (idx.slice (Rect.unit (s := S4x128) ![c.val, 0] S1x128.size (offs_inb c)) (fun _ => rfl)).squeeze S128 squeezes_S1x128_S128
/-- A block of 512 rows and 128 columns of the embeddings' array. -/
abbrev outS (off : Fin 2 → Nat) (inb : ∀ a, off a + S512x128.size a ≤ S16384x1024.size a) : Memref sig .scVector .hbm S512x128 .f32 :=
  out.slice (Rect.unit (s := S16384x1024) off S512x128.size inb) (fun _ => rfl)

/-- The four gathers on one semaphore, and the four waits for them. -/
def gathersProg (sg : DmaSems sig S_) : Prog (TpuEff nD τ sig (Elt F) Λ₀ (.scVector (cV L) (jV L))) PUnit := do
  SparseCore.enqueueIndirectGather rfl (tabS tab) (dstC rows 0) gathers_S100000x128_S128x128 (offsC idx 0) rfl sg.sem (View.wordExact_bits rfl) rfl (Or.inl rfl)
  SparseCore.enqueueIndirectGather rfl (tabS tab) (dstC rows 1) gathers_S100000x128_S128x128 (offsC idx 1) rfl sg.sem (View.wordExact_bits rfl) rfl (Or.inl rfl)
  SparseCore.enqueueIndirectGather rfl (tabS tab) (dstC rows 2) gathers_S100000x128_S128x128 (offsC idx 2) rfl sg.sem (View.wordExact_bits rfl) rfl (Or.inl rfl)
  SparseCore.enqueueIndirectGather rfl (tabS tab) (dstC rows 3) gathers_S100000x128_S128x128 (offsC idx 3) rfl sg.sem (View.wordExact_bits rfl) rfl (Or.inl rfl)
  SparseCore.waitIndirectGather sg.sem (tabS tab) (dstC rows 0) (View.wordExact_bits rfl) (View.wordExact_bits rfl)
  SparseCore.waitIndirectGather sg.sem (tabS tab) (dstC rows 1) (View.wordExact_bits rfl) (View.wordExact_bits rfl)
  SparseCore.waitIndirectGather sg.sem (tabS tab) (dstC rows 2) (View.wordExact_bits rfl) (View.wordExact_bits rfl)
  SparseCore.waitIndirectGather sg.sem (tabS tab) (dstC rows 3) (View.wordExact_bits rfl) (View.wordExact_bits rfl)

/-- One feature: its index rows fetched, its rows gathered, the gathered rows copied out. -/
def featProg (off : Fin 2 → Nat) (inb : ∀ a, off a + S512x128.size a ≤ S16384x1024.size a) (sg s1 s2 : DmaSems sig S_) :
    Prog (TpuEff nD τ sig (Elt F) Λ₀ (.scVector (cV L) (jV L))) PUnit := do
  Prog.lift (.enqueueDma (catsS L cats) (.here idx) (.dma s1.sem) (View.wordExact_bits rfl) hidx.wordExact ⟨Or.inl rfl, trivial⟩)
  Prog.lift (.waitDma2 s1.sem (catsS L cats) idx (View.wordExact_bits rfl) hidx.wordExact)
  gathersProg L tab idx rows sg
  Prog.lift (.enqueueDma rows (.here (outS out off inb)) (.dma s2.sem) hrows.wordExact (View.wordExact_bits rfl) ⟨Or.inl rfl, trivial⟩)
  Prog.lift (.waitDma2 s2.sem rows (outS out off inb) hrows.wordExact (View.wordExact_bits rfl))

end Prog

/-- The tile's program on this kernel's operands. -/
abbrev tileProg (L : grid0.Coords) : Prog (TpuEff nD τ sig (Elt F) Λ₀ (.scVector (cV L) (jV L))) PUnit :=
  cc0_gather_kernel L (Memref.whole main_v0_scv) (Memref.isWhole_whole _) (Memref.whole main_v1_scv) (Memref.isWhole_whole _) (Memref.whole main_v2_scv) (Memref.isWhole_whole _) (Memref.whole main_v3_scv) (Memref.isWhole_whole _)
    (Memref.whole main_v4_scv) (Memref.isWhole_whole _) (Memref.whole main_v5_scv) (Memref.isWhole_whole _) (Memref.whole main_v6_scv) (Memref.isWhole_whole _) (Memref.whole main_v7_scv) (Memref.isWhole_whole _)
    (Memref.whole main_arg9_scv) (Memref.isWhole_whole _) (Memref.whole main_arg10_scv) (Memref.isWhole_whole _) (Memref.whole main_arg11_scv) (Memref.isWhole_whole _) (Memref.whole main_arg12_scv) (Memref.isWhole_whole _)
    (Memref.whole main_arg13_scv) (Memref.isWhole_whole _) (Memref.whole main_arg14_scv) (Memref.isWhole_whole _) (Memref.whole main_arg15_scv) (Memref.isWhole_whole _) (Memref.whole main_arg16_scv) (Memref.isWhole_whole _)
    (Memref.whole main_v8_scv) (Memref.isWhole_whole _) (Memref.whole cc0_scratch0) (Memref.isWhole_whole _) (Memref.whole cc0_scratch1) (Memref.isWhole_whole _) cc0_scratch2
    cc0_scoped0 cc0_scoped1 cc0_scoped2 cc0_scoped3 cc0_scoped4 cc0_scoped5 cc0_scoped6 cc0_scoped7
    cc0_scoped8 cc0_scoped9 cc0_scoped10 cc0_scoped11 cc0_scoped12 cc0_scoped13 cc0_scoped14 cc0_scoped15

/-- A feature's program on its index array, its table and its two copies' semaphores. -/
abbrev featAt (L : grid0.Coords) (cats : Memref sig .scVector .hbm S128x128 .i32) (tab : Memref sig .scVector .hbm S100000x128 .f32)
    (off : Fin 2 → Nat) (inb : ∀ a, off a + S512x128.size a ≤ S16384x1024.size a) (s1 s2 : DmaSems sig S_) :
    Prog (TpuEff nD τ sig (Elt F) Λ₀ (.scVector (cV L) (jV L))) PUnit :=
  featProg L cats tab (Memref.whole main_v8_scv) (Memref.whole cc0_scratch0) (Memref.isWhole_whole _) (Memref.whole cc0_scratch1) (Memref.isWhole_whole _) off inb cc0_scratch2 s1 s2

set_option maxRecDepth 100000 in
set_option maxHeartbeats 4000000 in
theorem tileProg_eq (L : grid0.Coords) : tileProg (F := F) L = (do
    featAt L (Memref.whole main_v0_scv) (Memref.whole main_arg9_scv) (k0_off2 L) (k0_off2_inb L) cc0_scoped0 cc0_scoped1
    featAt L (Memref.whole main_v1_scv) (Memref.whole main_arg10_scv) (k0_off3 L) (k0_off3_inb L) cc0_scoped2 cc0_scoped3
    featAt L (Memref.whole main_v2_scv) (Memref.whole main_arg11_scv) (k0_off4 L) (k0_off4_inb L) cc0_scoped4 cc0_scoped5
    featAt L (Memref.whole main_v3_scv) (Memref.whole main_arg12_scv) (k0_off5 L) (k0_off5_inb L) cc0_scoped6 cc0_scoped7
    featAt L (Memref.whole main_v4_scv) (Memref.whole main_arg13_scv) (k0_off6 L) (k0_off6_inb L) cc0_scoped8 cc0_scoped9
    featAt L (Memref.whole main_v5_scv) (Memref.whole main_arg14_scv) (k0_off7 L) (k0_off7_inb L) cc0_scoped10 cc0_scoped11
    featAt L (Memref.whole main_v6_scv) (Memref.whole main_arg15_scv) (k0_off8 L) (k0_off8_inb L) cc0_scoped12 cc0_scoped13
    featAt L (Memref.whole main_v7_scv) (Memref.whole main_arg16_scv) (k0_off9 L) (k0_off9_inb L) cc0_scoped14 cc0_scoped15) := rfl

end Cert.Proof

end
-- ==== Proof.Feature.lean ====
/-
  One feature of the gather kernel on one tile: the tile's index rows fetched, four gathers started on one semaphore
  and waited for, the gathered rows copied to the tile's block of the embeddings' array.
-/
module

public import proofs.«01_k».proof.Proof.Setup
public import Idealize.ShloMosaic.Lib.ValueIdxCore
public import Idealize.ShloMosaic.Lib.Pipeline.Value
public import Idealize.ShloMosaic.Lib.Pipeline.ValueKit

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => 𝕄M F

/-! ## What a gather puts where -/

/-- The table row a word names. -/
abbrev rowIx (n : ℕ) : Fin 100000 := ⟨n % 100000, Nat.mod_lt _ (by decide)⟩

/-- The 512 gathered rows: row `p` is the table's row that entry `(p / 128, p % 128)` of the list names. -/
def gRows (tb : S100000x128.Idx → Elt F .f32) (C : S4x128.Idx → Elt F .i32) : S512x128.Idx → Elt F .f32 := fun x =>
  tb (ValueIdx.ix2 (rowIx (C (ValueIdx.ix2 (⟨(x 0).val / 128, by have := idx2_lt0 x; omega⟩ : Fin 4) (⟨(x 0).val % 128, by omega⟩ : Fin 128))).toNat) (x 1))

/-- The two scratch buffers. -/
abbrev idxM : Memref sig .scVector .vmem S4x128 .i32 := Memref.whole cc0_scratch0
abbrev rowsM : Memref sig .scVector .vmem S512x128 .f32 := Memref.whole cc0_scratch1

/-- The elements of gather `c`'s rows, and of its list. -/
abbrev dstSet (c : Fin 4) : Finset S512x128.Idx := (dstC rowsM c).view.set
abbrev offsSet (c : Fin 4) : Finset S4x128.Idx := (offsC idxM c).view.set

theorem mem_dstC (c : Fin 4) (x : S512x128.Idx) : x ∈ dstSet c ↔ 128 * c.val ≤ (x 0).val ∧ (x 0).val < 128 * c.val + 128 := by
  refine ValueKit.mem_set_slice_whole_iff cc0_scratch1 _ _ (Rect.mem_set_unit.trans ?_)
  constructor
  · intro h; exact h 0
  · intro h a
    match a with
    | 0 => exact h
    | 1 => exact ⟨Nat.zero_le _, by have := idx2_lt1 x; show (x 1).val < 0 + 128; omega⟩

theorem mem_offsC (c : Fin 4) (x : S4x128.Idx) : x ∈ offsSet c ↔ (x 0).val = c.val := by
  have hs : offsSet c = ((View.whole cc0_scratch0).slice (Rect.unit (s := S4x128) ![c.val, 0] S1x128.size (offs_inb c))).set :=
    View.set_reshape _ _
  rw [hs]
  refine ValueKit.mem_set_slice_whole_iff cc0_scratch0 _ _ (Rect.mem_set_unit.trans ?_)
  constructor
  · intro h
    have h0 : c.val ≤ (x 0).val ∧ (x 0).val < c.val + 1 := h 0
    omega
  · intro h a
    match a with
    | 0 => exact (show c.val ≤ (x 0).val ∧ (x 0).val < c.val + 1 by omega)
    | 1 => exact ⟨Nat.zero_le _, by have := idx2_lt1 x; show (x 1).val < 0 + 128; omega⟩

theorem dst_disjoint : ∀ i ∈ (Finset.univ : Finset (Fin 4)), ∀ j ∈ (Finset.univ : Finset (Fin 4)), i ≠ j →
    Disjoint (dstSet i) (dstSet j) := fun i _ j _ h =>
  Finset.disjoint_left.mpr fun x hx hy => by
    rw [mem_dstC] at hx hy
    exact h (Fin.ext (by omega))
theorem offs_disjoint : ∀ i ∈ (Finset.univ : Finset (Fin 4)), ∀ j ∈ (Finset.univ : Finset (Fin 4)), i ≠ j →
    Disjoint (offsSet i) (offsSet j) := fun i _ j _ h =>
  Finset.disjoint_left.mpr fun x hx hy => by
    rw [mem_offsC] at hx hy
    exact h (Fin.ext (by omega))
theorem dst_cover : (Finset.univ : Finset (Fin 4)).biUnion dstSet = Finset.univ := by
  ext x
  simp only [Finset.mem_biUnion, Finset.mem_univ, _root_.true_and, iff_true]
  have := idx2_lt0 (n0 := 512) (n1 := 128) x
  exact ⟨⟨(x 0).val / 128, by omega⟩, (mem_dstC _ x).mpr (by dsimp only; omega)⟩
theorem offs_cover : (Finset.univ : Finset (Fin 4)).biUnion offsSet = Finset.univ := by
  ext x
  simp only [Finset.mem_biUnion, Finset.mem_univ, _root_.true_and, iff_true]
  have := idx2_lt0 (n0 := 4) (n1 := 128) x
  exact ⟨⟨(x 0).val, by omega⟩, (mem_offsC _ x).mpr rfl⟩

/-- Entry `i` of list `c` is entry `(c, i)` of the index scratch. -/
theorem read_offsC (c : Fin 4) (C : S4x128.Idx → Elt F .i32) (i : S128.Idx) :
    (offsC idxM c).view.read (Elt F) C i = C (ValueIdx.ix2 c (i 0)) := by
  rw [View.read_apply]
  refine (cast_eq _ _).trans (congrArg C ?_)
  have he : Shape.reshapeEquiv squeezes_S1x128_S128.numel_eq i = (ValueIdx.ix2 (0 : Fin 1) (i 0) : S1x128.Idx) :=
    Shape.reshapeEquiv_eq_of_rowMajor _ (by rw [Shape.rowMajor_val_two, Shape.rowMajor_val_one]; simp)
  show (Rect.unit (s := S4x128) ![c.val, 0] S1x128.size (offs_inb c)).emb (Shape.reshapeEquiv squeezes_S1x128_S128.numel_eq i) = _
  rw [he]
  funext a
  match a with
  | 0 => exact Fin.ext (by simp [Rect.emb_apply])
  | 1 => exact Fin.ext (by simp [Rect.emb_apply])

/-- Entry `k` of a list of 128 words in row-major order is the word at `k`. -/
theorem entry_S128 (k : Fin S128.numel) : ((S128.rowMajor.symm k) 0).val = k.val := by
  have h := Shape.rowMajor_val_one (S128.rowMajor.symm k)
  rw [Equiv.apply_symm_apply] at h
  exact h.symm

/-- What gather `c` writes, read where it writes it: the gathered rows. -/
theorem write_dstC (c : Fin 4) (tb : S100000x128.Idx → Elt F .f32) (C : S4x128.Idx → Elt F .i32) (fr : S512x128.Idx → Elt F .f32)
    (hin : ∀ x, ((offsC idxM c).view.read (Elt F) C x).toNat < 100000) (x : S512x128.Idx) (hx : x ∈ dstSet c) :
    (dstC rowsM c).view.write (Elt F) fr (SparseCore.gatherPayload gathers_S100000x128_S128x128 tb
      (SparseCore.rows ((offsC idxM c).view.read (Elt F) C) rfl hin)) Finset.univ x = gRows tb C x := by
  rw [mem_dstC] at hx
  have h1 := idx2_lt1 (n0 := 512) (n1 := 128) x
  have hw := View.write_whole_slice_unit (Val := Elt F) cc0_scratch1 ![128 * c.val, 0] S128x128.size (dst_inb c) fr
    (SparseCore.gatherPayload gathers_S100000x128_S128x128 tb (SparseCore.rows ((offsC idxM c).view.read (Elt F) C) rfl hin))
  refine (congrFun hw x).trans ?_
  unfold updateSlice
  have hmem : ∀ a : Fin 2, (![128 * c.val, 0] : Fin 2 → ℕ) a ≤ (x a).val ∧ (x a).val < (![128 * c.val, 0] : Fin 2 → ℕ) a + S128x128.size a := fun a =>
    match a with
    | 0 => hx
    | 1 => ⟨Nat.zero_le _, show (x 1).val < 0 + 128 by omega⟩
  refine (dif_pos hmem).trans ?_
  unfold SparseCore.gatherPayload gRows
  refine congrArg tb (funext fun a => ?_)
  match a with
  | 0 =>
    refine (Shape.Gathers.idx_axis gathers_S100000x128_S128x128 _ _).trans (Fin.ext ?_)
    show ((offsC idxM c).view.read (Elt F) C _).toNat = _ % 100000
    have hlt := hin (S128.rowMajor.symm (Fin.cast rfl (⟨(x 0).val - 128 * c.val, by omega⟩ : Fin 128)))
    rw [read_offsC] at hlt ⊢
    have hC : (ValueIdx.ix2 c ((S128.rowMajor.symm (Fin.cast rfl (⟨(x 0).val - 128 * c.val, by omega⟩ : Fin 128))) 0) : S4x128.Idx)
        = ValueIdx.ix2 (⟨(x 0).val / 128, by omega⟩ : Fin 4) (⟨(x 0).val % 128, by omega⟩ : Fin 128) := by
      funext b
      match b with
      | 0 => exact Fin.ext (by show c.val = (x 0).val / 128; omega)
      | 1 => exact Fin.ext ((entry_S128 _).trans (by show (x 0).val - 128 * c.val = (x 0).val % 128; omega))
    rw [← hC, Nat.mod_eq_of_lt hlt]; rfl
  | 1 => exact Fin.ext ((Shape.Gathers.idx_of_ne gathers_S100000x128_S128x128 _ _ 1 (by decide)).trans rfl)

/-! ## The four gathers -/

variable [FloatOps F]

section Gathers

variable (d : Dev nD) (L : grid0.Coords)

/-- A tile, as a thread. -/
abbrev thr (d : Dev nD) (L : grid0.Coords) : Thread nD τ := V d (cV L) (jV L)

variable (tab : Memref sig .scVector .hbm S100000x128 .f32) (q : PosShare TreeShare) (ft : Buf (Elt F) (tab.view.loc (thr d L)))
  (fi : S4x128.Idx → Elt F .i32) (fr : S512x128.Idx → Elt F .f32)

/-- What row `i` of gather `c` delivers. -/
abbrev delC (hin : ∀ c x, ((offsC idxM c).view.read (Elt F) fi x).toNat < 100000) (c : Fin 4) (i : Fin 128) : sProp 𝕄 :=
  rowDel (thr d L) (tabS tab) (dstC rowsM c) gathers_S100000x128_S128x128 (offsC idxM c) rfl (by decide)
    (pieceOf q 4 (by decide) c) fullShare ft fr fi (hin c) i

/-- The batch's 512 deliveries: gather by gather, row by row. -/
def dels (hin : ∀ c x, ((offsC idxM c).view.read (Elt F) fi x).toNat < 100000) (t : Fin 512) : sProp 𝕄 :=
  delC d L tab q ft fi fr hin ⟨t.val / 128, by omega⟩ ⟨t.val % 128, by omega⟩

instance dels_storable (hin : ∀ c x, ((offsC idxM c).view.read (Elt F) fi x).toNat < 100000) (t : Fin 512) :
    Storable (upEmb : UEmb _ 𝕄) (dels d L tab q ft fi fr hin t) := by unfold dels delC; exact rowDel_storable _ _ _ _ _ _ _ _ _ _ _ _ _ _

theorem delC_dels (hin : ∀ c x, ((offsC idxM c).view.read (Elt F) fi x).toNat < 100000) (c : Fin 4) (j : ℕ) (hj : j = 128 * c.val)
    (i : Fin 128) (h : j + i.val < 512) : delC d L tab q ft fi fr hin c i ⊢ dels d L tab q ft fi fr hin ⟨j + i.val, h⟩ := by
  unfold dels
  have h1 : (⟨(j + i.val) / 128, by omega⟩ : Fin 4) = c := Fin.ext (by dsimp only; omega)
  have h2 : (⟨(j + i.val) % 128, by omega⟩ : Fin 128) = i := Fin.ext (by dsimp only; omega)
  dsimp only
  rw [h1, h2]

/-- All 512 deliveries are the four gathers'. -/
theorem dels_split (hin : ∀ c x, ((offsC idxM c).view.read (Elt F) fi x).toNat < 100000) :
    bigSep Finset.univ (dels d L tab q ft fi fr hin) = bigSep Finset.univ fun c : Fin 4 => bigSep Finset.univ (delC d L tab q ft fi fr hin c) := by
  refine (bigSep_univ_equiv (finProdFinEquiv (m := 4) (n := 128)) (dels d L tab q ft fi fr hin)).trans ?_
  refine (bigSep_congr (Ψ := fun p : Fin 4 × Fin 128 => delC d L tab q ft fi fr hin p.1 p.2) fun p _ => ?_).trans
    (bigSep_univ_prod fun p : Fin 4 × Fin 128 => delC d L tab q ft fi fr hin p.1 p.2)
  unfold dels
  have e : (finProdFinEquiv p).val = p.2.val + 128 * p.1.val := rfl
  congr 1
  · exact Fin.ext (by dsimp only; rw [e]; omega)
  · exact Fin.ext (by dsimp only; rw [e]; omega)

/-- What one row of a gather credits. -/
abbrev rowN : ℕ := ((dstC rowsM 0).slice (S128x128.rowRect gathers_S100000x128_S128x128.axis' (0 : Fin 128))
  (S128x128.stride_rowRect gathers_S100000x128_S128x128.axis' (0 : Fin 128))).view.dmaCredit

theorem credit_row (c : Fin 4) (i : Fin 128) :
    ((dstC rowsM c).slice (S128x128.rowRect gathers_S100000x128_S128x128.axis' i)
      (S128x128.stride_rowRect gathers_S100000x128_S128x128.axis' i)).view.dmaCredit = rowN := rfl
theorem rowN_pos : 0 < rowN := by decide
theorem credit_dst (c : Fin 4) : (dstC rowsM c).view.dmaCredit = 128 * rowN := by
  show (dstC rowsM 0).view.dmaCredit = 128 * rowN
  decide

theorem rows_pts (f : S512x128.Idx → Elt F .f32) :
    ((rowsM.view.loc (thr d L) ↦{fullShare} f) : sProp 𝕄) = bigSep Finset.univ fun c : Fin 4 => (dstC rowsM c).view.loc (thr d L) ↦[dstSet c]{fullShare} f := by
  refine Eq.trans ?_ (pointsTo_biUnion Finset.univ (ℓ := rowsM.view.loc (thr d L)) dstSet dst_disjoint)
  rw [dst_cover]
theorem idx_pts (f : S4x128.Idx → Elt F .i32) :
    ((idxM.view.loc (thr d L) ↦{fullShare} f) : sProp 𝕄) = bigSep Finset.univ fun c : Fin 4 => (offsC idxM c).view.loc (thr d L) ↦[offsSet c]{fullShare} f := by
  refine Eq.trans ?_ (pointsTo_biUnion Finset.univ (ℓ := idxM.view.loc (thr d L)) offsSet offs_disjoint)
  rw [offs_cover]

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

set_option maxHeartbeats 4000000 in
/-- The four gathers and their waits: from a share of the table, the two scratch buffers and the semaphore at zero, to
    the row scratch holding the gathered rows. -/
theorem wp_gathers (sg : DmaSems sig S_) (hin : ∀ c x, ((offsC idxM c).view.read (Elt F) fi x).toNat < 100000)
    (O : CellTallies nD τ sig (HIx 1)) (W : Waits sig (HIx 1)) {α : Type}
    (k : PUnit → Prog (TpuEff nD τ sig (Elt F) Λ₀ (.scVector (cV L) (jV L))) α) (Q : α → sProp 𝕄) :
    iprop(((tabS tab).view.loc (thr d L) ↦[(tabS tab).view.set]{q} ft) ∗ (rowsM.view.loc (thr d L) ↦{fullShare} fr)
        ∗ (idxM.view.loc (thr d L) ↦{fullShare} fi) ∗ semVal (thr d L, SemLoc.dma sg.sem) 0 ∗ owes (thr d L) O W
        ∗ Transfers.MayWaits (thr d L) (default : HIx 1) O)
      ⊢ iprop((iprop(((tabS tab).view.loc (thr d L) ↦[(tabS tab).view.set]{q} ft)
            ∗ (rowsM.view.loc (thr d L) ↦{fullShare} gRows ((tabS tab).view.read (Elt F) ft) fi)
            ∗ (idxM.view.loc (thr d L) ↦{fullShare} fi) ∗ semVal (thr d L, SemLoc.dma sg.sem) 0
            ∗ owes (thr d L) O (insert (SemLoc.dma sg.sem, default) W))
          -∗ wp frame (wpE (defs₀ (F := F)) 𝒱₀ (thr d L) none) Set.univ (k ⟨⟩) Q)
        -∗ wp frame (wpE (defs₀ (F := F)) 𝒱₀ (thr d L) none) Set.univ (gathersProg L tab idxM rowsM sg >>= k) Q) := by
  have hg (c : Fin 4) (j : ℕ) (hj : j = 128 * c.val) (k' : PUnit → Prog (TpuEff nD τ sig (Elt F) Λ₀ (.scVector (cV L) (jV L))) α) :=
    wp_gatherBatch (Λ := Λ₀) (defs := defs₀ (F := F)) (Q := Q) countersEmb 𝒱₀ (thr d L) none (D := dels d L tab q ft fi fr hin) (j := j) (u := 0) (N := rowN)
      (src := tabS tab) (dst := dstC rowsM c) (hg := gathers_S100000x128_S128x128) (offs := offsC idxM c) (hn := rfl) (sem := sg.sem) (hp := rfl)
      (hsrc := View.wordExact_bits rfl) (he := rfl) (hsp := Or.inl rfl) (hr := by decide) (k := k') (q := pieceOf q 4 (by decide) c) (qo := fullShare) (fs := ft) (fd := fr) (fo := fi)
      (default : HIx 1) 128 rfl (credit_row c) (by decide) (hin c) (by omega) (Nat.zero_le _) (delC_dels d L tab q ft fi fr hin c j hj)
  have hw (c : Fin 4) (u : ℕ) (hu : u + 128 * rowN ≤ rowN * 512) (W : Waits sig (HIx 1)) (k' : PUnit → Prog (TpuEff nD τ sig (Elt F) Λ₀ (.scVector (cV L) (jV L))) α) :=
    Transfers.wp_waitBatchMulO (Λ := Λ₀) (defs := defs₀ (F := F)) (Q := Q) countersEmb 𝒱₀ (thr d L) none (D := dels d L tab q ft fi fr hin) (j := 512) (u := u) (N := rowN)
      (srcw := tabS tab) (dstw := dstC rowsM c) (sem := sg.sem) (hsrc := View.wordExact_bits rfl) (hdst := View.wordExact_bits rfl) (k := k')
      (O := O) (W := W) (default : HIx 1) 128 (credit_dst c) hu
  have hc := Transfers.batch_collect' (Name := ℕ) countersEmb (thr d L) (sm := SemLoc.dma sg.sem) (ι := (default : HIx 1)) rowN_pos (D := dels d L tab q ft fi fr hin)
  have hjoin (c : Fin 4) : bigSep Finset.univ (delC d L tab q ft fi fr hin c)
      ⊢ (iprop(((dstC rowsM c).view.loc (thr d L) ↦[(dstC rowsM c).view.set]{fullShare} ((dstC rowsM c).view.write (Elt F) fr
            (SparseCore.gatherPayload gathers_S100000x128_S128x128 ((tabS tab).view.read (Elt F) ft) (SparseCore.rows ((offsC idxM c).view.read (Elt F) fi) rfl (hin c))) Finset.univ))
          ∗ ((offsC idxM c).view.loc (thr d L) ↦[offsSet c]{fullShare} fi)
          ∗ ((tabS tab).view.loc (thr d L) ↦[(tabS tab).view.set]{pieceOf q 4 (by decide) c} ft)) : sProp 𝕄) := rowDels_join (Ix := HIx 1) (Name := ℕ) (U := UU) (Lvl := ℕ) (c := thr d L) (src := tabS tab) (dst := dstC rowsM c)
    (hg := gathers_S100000x128_S128x128) (offs := offsC idxM c) (hn := rfl) (ho := by decide) (q := pieceOf q 4 (by decide) c) (qo := fullShare) (fs := ft) (fd := fr) (fo := fi) (hin := hin c)
  have hdst (c : Fin 4) : ((dstC rowsM c).view.loc (thr d L) ↦[(dstC rowsM c).view.set]{fullShare} ((dstC rowsM c).view.write (Elt F) fr
        (SparseCore.gatherPayload gathers_S100000x128_S128x128 ((tabS tab).view.read (Elt F) ft) (SparseCore.rows ((offsC idxM c).view.read (Elt F) fi) rfl (hin c))) Finset.univ) : sProp 𝕄)
      = (dstC rowsM c).view.loc (thr d L) ↦[dstSet c]{fullShare} gRows ((tabS tab).view.read (Elt F) ft) fi :=
    pointsTo_congr fun x hx => write_dstC c ((tabS tab).view.read (Elt F) ft) fi fr (hin c) x hx
  rw [rows_pts, rows_pts, idx_pts, pointsTo_piecesOf (tabS tab).view.set ft (show 0 < 4 by decide) q]
  simp only [bigSep_four]
  iintro ⟨⟨Ht0, Ht1, Ht2, Ht3⟩, ⟨Hr0, Hr1, Hr2, Hr3⟩, ⟨Hi0, Hi1, Hi2, Hi3⟩, Hv, HO, #Hmw⟩ Hk
  imod (Transfers.batch_alloc' countersEmb (thr d L) (default : HIx 1) rowN (dels d L tab q ft fi fr hin)) $$ Hv with HB
  unfold gathersProg
  simp only [bind_assoc]
  iapply (hg 0 0 rfl _) $$ [Ht0 Hr0 Hi0 HB]
  · isplitl [Ht0]; · iexact Ht0
    isplitl [Hr0]; · iexact Hr0
    isplitl [Hi0]; · iexact Hi0
    iexact HB
  iintro HB
  iapply (hg 1 128 rfl _) $$ [Ht1 Hr1 Hi1 HB]
  · isplitl [Ht1]; · iexact Ht1
    isplitl [Hr1]; · iexact Hr1
    isplitl [Hi1]; · iexact Hi1
    iexact HB
  iintro HB
  iapply (hg 2 256 rfl _) $$ [Ht2 Hr2 Hi2 HB]
  · isplitl [Ht2]; · iexact Ht2
    isplitl [Hr2]; · iexact Hr2
    isplitl [Hi2]; · iexact Hi2
    iexact HB
  iintro HB
  iapply (hg 3 384 rfl _) $$ [Ht3 Hr3 Hi3 HB]
  · isplitl [Ht3]; · iexact Ht3
    isplitl [Hr3]; · iexact Hr3
    isplitl [Hi3]; · iexact Hi3
    iexact HB
  iintro HB
  iapply (hw 0 (0) (by omega) W _) $$ [HB HO]
  · isplitl [HB]; · iexact HB
    isplitl [HO]; · iexact HO
    iapply (Transfers.MayWaits.elim (SemLoc.dma sg.sem)) $$ Hmw
  iintro ⟨HB, HO⟩
  iapply (hw 1 (0 + 128 * rowN) (by omega) (insert (SemLoc.dma sg.sem, (default : HIx 1)) W) _) $$ [HB HO]
  · isplitl [HB]; · iexact HB
    isplitl [HO]; · iexact HO
    iapply (Transfers.MayWaits.elim (SemLoc.dma sg.sem)) $$ Hmw
  iintro ⟨HB, HO⟩
  iapply (hw 2 (0 + 128 * rowN + 128 * rowN) (by omega) (insert (SemLoc.dma sg.sem, (default : HIx 1)) (insert (SemLoc.dma sg.sem, (default : HIx 1)) W)) _) $$ [HB HO]
  · isplitl [HB]; · iexact HB
    isplitl [HO]; · iexact HO
    iapply (Transfers.MayWaits.elim (SemLoc.dma sg.sem)) $$ Hmw
  iintro ⟨HB, HO⟩
  iapply (hw 3 (0 + 128 * rowN + 128 * rowN + 128 * rowN) (by omega) (insert (SemLoc.dma sg.sem, (default : HIx 1)) (insert (SemLoc.dma sg.sem, (default : HIx 1)) (insert (SemLoc.dma sg.sem, (default : HIx 1)) W))) _) $$ [HB HO]
  · isplitl [HB]; · iexact HB
    isplitl [HO]; · iexact HO
    iapply (Transfers.MayWaits.elim (SemLoc.dma sg.sem)) $$ Hmw
  iintro ⟨HB, HO⟩
  imod hc $$ [HB] with ⟨HD, Hv⟩
  · iapply (Entails.of_eq (show Transfers.Batch countersEmb (thr d L) (.dma sg.sem) (default : HIx 1) rowN (dels d L tab q ft fi fr hin) 512 (0 + 128 * rowN + 128 * rowN + 128 * rowN + 128 * rowN)
      = (Transfers.Batch countersEmb (thr d L) (.dma sg.sem) (default : HIx 1) rowN (dels d L tab q ft fi fr hin) 512 (rowN * 512) : sProp 𝕄) from
        congrArg (Transfers.Batch countersEmb (thr d L) (.dma sg.sem) (default : HIx 1) rowN (dels d L tab q ft fi fr hin) 512) (by omega)))
    iexact HB
  ihave HD' := (Entails.of_eq ((dels_split d L tab q ft fi fr hin).trans (bigSep_four _))) $$ HD
  icases HD' with ⟨H0, H1, H2, H3⟩
  ihave H0' := hjoin 0 $$ H0
  icases H0' with ⟨Hr0, Hi0, Ht0⟩
  ihave H1' := hjoin 1 $$ H1
  icases H1' with ⟨Hr1, Hi1, Ht1⟩
  ihave H2' := hjoin 2 $$ H2
  icases H2' with ⟨Hr2, Hi2, Ht2⟩
  ihave H3' := hjoin 3 $$ H3
  icases H3' with ⟨Hr3, Hi3, Ht3⟩
  iapply Hk
  isplitl [Ht0 Ht1 Ht2 Ht3]
  · isplitl [Ht0]; · iexact Ht0
    isplitl [Ht1]; · iexact Ht1
    isplitl [Ht2]; · iexact Ht2
    iexact Ht3
  isplitl [Hr0 Hr1 Hr2 Hr3]
  · isplitl [Hr0]; · iapply (Entails.of_eq (hdst 0)); iexact Hr0
    isplitl [Hr1]; · iapply (Entails.of_eq (hdst 1)); iexact Hr1
    isplitl [Hr2]; · iapply (Entails.of_eq (hdst 2)); iexact Hr2
    iapply (Entails.of_eq (hdst 3)); iexact Hr3
  isplitl [Hi0 Hi1 Hi2 Hi3]
  · isplitl [Hi0]; · iexact Hi0
    isplitl [Hi1]; · iexact Hi1
    isplitl [Hi2]; · iexact Hi2
    iexact Hi3
  isplitl [Hv]; · iexact Hv
  simp only [Finset.insert_idem]
  iexact HO

end Gathers

end Cert.Proof

end
-- ==== Proof.Tile.lean ====
/-
  The gather kernel on one tile, with what it leaves: eight features, one after the other, each filling its 128 columns
  of the tile's 512 rows of the embeddings' array.
-/
module

public import proofs.«01_k».proof.Proof.Feature

@[expose] public section

noncomputable section

namespace Cert.Proof

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => 𝕄M F

/-! ## The embeddings' array, and a tile's rows of it -/

/-- The array of embeddings: row `r`'s columns `128 f … 128 f + 127` are the row of table `f` that index `r` of feature
    `f` names; the indices of a feature lie in a 128×128 array. -/
def embG (Tb : Fin 8 → S100000x128.Idx → Elt F .f32) (C : Fin 8 → S128x128.Idx → Elt F .i32) : S16384x1024.Idx → Elt F .f32 := fun x =>
  Tb ⟨(x 1).val / 128, by have := idx2_lt1 x; omega⟩
    (ValueIdx.ix2 (rowIx (C ⟨(x 1).val / 128, by have := idx2_lt1 x; omega⟩
        (ValueIdx.ix2 (⟨(x 0).val / 128, by have := idx2_lt0 x; omega⟩ : Fin 128) (⟨(x 0).val % 128, by omega⟩ : Fin 128))).toNat)
      (⟨(x 1).val % 128, by omega⟩ : Fin 128))

theorem core_lt (L : grid0.Coords) : (L 0).val < 2 := (L 0).isLt
theorem sub_lt (L : grid0.Coords) : (L 1).val < 16 := (L 1).isLt
/-- A tile's number. -/
abbrev wid (L : grid0.Coords) : Fin 32 := ⟨2 * (L 1).val + (L 0).val, by have := core_lt L; have := sub_lt L; omega⟩

/-- Tile `w`'s rows of the array. -/
def blk (w : Fin 32) : Finset S16384x1024.Idx := Finset.univ.filter fun x => (x 0).val / 512 = w.val
theorem mem_blk (w : Fin 32) (x : S16384x1024.Idx) : x ∈ blk w ↔ (x 0).val / 512 = w.val := by simp [blk]

abbrev outM : Memref sig .scVector .hbm S16384x1024 .f32 := Memref.whole main_v8_scv

theorem mem_outS (off : Fin 2 → Nat) (inb : ∀ a, off a + S512x128.size a ≤ S16384x1024.size a) (x : S16384x1024.Idx) :
    x ∈ (outS outM off inb).view.set ↔ (off 0 ≤ (x 0).val ∧ (x 0).val < off 0 + 512) ∧ off 1 ≤ (x 1).val ∧ (x 1).val < off 1 + 128 := by
  refine ValueKit.mem_set_slice_whole_iff main_v8_scv _ _ (Rect.mem_set_unit.trans ?_)
  constructor
  · intro h; exact ⟨h 0, h 1⟩
  · intro h a
    match a with
    | 0 => exact h.1
    | 1 => exact h.2

theorem outS_sub (L : grid0.Coords) (f : Fin 8) (off : Fin 2 → Nat) (inb : ∀ a, off a + S512x128.size a ≤ S16384x1024.size a)
    (hoff : off = ![1024 * (L 1).val + 512 * (L 0).val, 128 * f.val]) : (outS outM off inb).view.set ⊆ blk (wid L) := by
  subst hoff
  intro x hx
  rw [mem_outS] at hx
  rw [mem_blk]
  have h := hx.1
  simp only [Matrix.cons_val_zero] at h
  show (x 0).val / 512 = 2 * (L 1).val + (L 0).val
  omega

set_option maxRecDepth 20000 in
/-- What a feature's copy leaves on the tile's rows: the columns up to and with its own are the embeddings'. -/
theorem write_outS (L : grid0.Coords) (f : Fin 8) (off : Fin 2 → Nat) (inb : ∀ a, off a + S512x128.size a ≤ S16384x1024.size a)
    (hoff : off = ![1024 * (L 1).val + 512 * (L 0).val, 128 * f.val])
    (Tb : Fin 8 → S100000x128.Idx → Elt F .f32) (C : Fin 8 → S128x128.Idx → Elt F .i32) (fo : S16384x1024.Idx → Elt F .f32)
    (cc : S4x128.Idx → Elt F .i32)
    (hcc : ∀ a : Fin 4, ∀ b : Fin 128, cc (ValueIdx.ix2 a b) = C f (ValueIdx.ix2 (⟨4 * (wid L).val + a.val, by have := (wid L).isLt; omega⟩ : Fin 128) b))
    (hfo : ∀ x ∈ blk (wid L), (x 1).val < 128 * f.val → fo x = embG Tb C x) :
    ∀ x ∈ blk (wid L), (x 1).val < 128 * (f.val + 1) →
      (outS outM off inb).view.write (Elt F) fo (gRows (Tb f) cc) Finset.univ x = embG Tb C x := by
  subst hoff
  intro x hx hlt
  have hw := View.write_whole_slice_unit (Val := Elt F) main_v8_scv _ S512x128.size inb fo (gRows (Tb f) cc)
  refine (congrFun hw x).trans ?_
  have h1 := idx2_lt1 (n0 := 16384) (n1 := 1024) x
  have h0 := idx2_lt0 (n0 := 16384) (n1 := 1024) x
  have hb : (x 0).val / 512 = 2 * (L 1).val + (L 0).val := (mem_blk _ _).mp hx
  unfold updateSlice
  by_cases hc : 128 * f.val ≤ (x 1).val
  · have hmem : ∀ a : Fin 2, (![1024 * (L 1).val + 512 * (L 0).val, 128 * f.val] : Fin 2 → ℕ) a ≤ (x a).val
        ∧ (x a).val < (![1024 * (L 1).val + 512 * (L 0).val, 128 * f.val] : Fin 2 → ℕ) a + S512x128.size a := fun a =>
      match a with
      | 0 => show 1024 * (L 1).val + 512 * (L 0).val ≤ (x 0).val ∧ (x 0).val < 1024 * (L 1).val + 512 * (L 0).val + 512 by omega
      | 1 => show 128 * f.val ≤ (x 1).val ∧ (x 1).val < 128 * f.val + 128 by omega
    refine (dif_pos hmem).trans ?_
    unfold gRows embG
    have hf : (⟨(x 1).val / 128, by omega⟩ : Fin 8) = f := Fin.ext (by show (x 1).val / 128 = f.val; omega)
    rw [hf, hcc]
    refine congrArg (Tb f) (funext fun a => ?_)
    match a with
    | 0 =>
      refine congrArg (fun z => rowIx (C f z).toNat) (funext fun b => ?_)
      match b with
      | 0 => exact Fin.ext (by
          show 4 * (2 * (L 1).val + (L 0).val) + ((x 0).val - (1024 * (L 1).val + 512 * (L 0).val)) / 128 = (x 0).val / 128
          omega)
      | 1 => exact Fin.ext (by
          show ((x 0).val - (1024 * (L 1).val + 512 * (L 0).val)) % 128 = (x 0).val % 128
          omega)
    | 1 => exact Fin.ext (by show (x 1).val - 128 * f.val = (x 1).val % 128; omega)
  · refine (dif_neg fun h => hc ?_).trans (hfo x hx (by omega))
    exact (h 1).1

/-! ## One feature -/

variable [FloatOps F]

section Feature

variable (d : Dev nD) (L : grid0.Coords) (Tb : Fin 8 → S100000x128.Idx → Elt F .f32) (C : Fin 8 → S128x128.Idx → Elt F .i32)
  (O : CellTallies nD τ sig (HIx 1)) (W : Waits sig (HIx 1))

/-- The tile between two features: the scratch buffers at some contents, the gathers' semaphore at zero, the first `n`
    features' columns of the tile's rows filled. -/
def tileSt (n : ℕ) : sProp 𝕄 :=
  iprop((∃ fr, rowsM.view.loc (thr d L) ↦{fullShare} fr) ∗ (∃ fi, idxM.view.loc (thr d L) ↦{fullShare} fi)
    ∗ semVal (thr d L, SemLoc.dma cc0_scratch2.sem) 0
    ∗ (∃ fo : S16384x1024.Idx → Elt F .f32, ⌜∀ x ∈ blk (wid L), (x 1).val < 128 * n → fo x = embG Tb C x⌝ ∗ outM.view.loc (thr d L) ↦[blk (wid L)]{fullShare} fo)
    ∗ ∃ W', ⌜∀ p ∈ W', p ∈ W ∨ p.2 = none⌝ ∗ owes (thr d L) O W')

set_option maxHeartbeats 4000000 in
theorem wp_feature (cats : Memref sig .scVector .hbm S128x128 .i32) (tab : Memref sig .scVector .hbm S100000x128 .f32) (q : PosShare TreeShare)
    (fc : Buf (Elt F) (cats.view.loc (thr d L))) (ft : Buf (Elt F) (tab.view.loc (thr d L)))
    (f : Fin 8) (off : Fin 2 → Nat) (inb : ∀ a, off a + S512x128.size a ≤ S16384x1024.size a) (s1 s2 : DmaSems sig S_)
    (hoff : off = ![1024 * (L 1).val + 512 * (L 0).val, 128 * f.val])
    (hC : ∀ a : Fin 4, ∀ b : Fin 128, (catsS L cats).view.read (Elt F) fc (ValueIdx.ix2 a b)
      = C f (ValueIdx.ix2 (⟨4 * (wid L).val + a.val, by have := (wid L).isLt; omega⟩ : Fin 128) b))
    (hT : (tabS tab).view.read (Elt F) ft = Tb f)
    (hlt : ∀ x, (C f x).toNat < 100000) {α : Type}
    (k : PUnit → Prog (TpuEff nD τ sig (Elt F) Λ₀ (.scVector (cV L) (jV L))) α) (Q : α → sProp 𝕄) :
    iprop(tileSt d L Tb C O W f.val ∗ (cats.view.loc (thr d L) ↦{q} fc) ∗ (tab.view.loc (thr d L) ↦{q} ft)
        ∗ semVal (thr d L, SemLoc.dma s1.sem) 0 ∗ semVal (thr d L, SemLoc.dma s2.sem) 0
        ∗ Transfers.MayWaits (thr d L) (default : HIx 1) O)
      ⊢ iprop((iprop(tileSt d L Tb C O W (f.val + 1) ∗ (cats.view.loc (thr d L) ↦{q} fc) ∗ (tab.view.loc (thr d L) ↦{q} ft)
            ∗ semVal (thr d L, SemLoc.dma s1.sem) 0 ∗ semVal (thr d L, SemLoc.dma s2.sem) 0)
          -∗ wp frame (wpE (defs₀ (F := F)) 𝒱₀ (thr d L) none) Set.univ (k ⟨⟩) Q)
        -∗ wp frame (wpE (defs₀ (F := F)) 𝒱₀ (thr d L) none) Set.univ (featAt L cats tab off inb s1 s2 >>= k) Q) := by
  have hcc : ∀ x, (catsS L cats).view.read (Elt F) fc x = C f (ValueIdx.ix2 (⟨4 * (wid L).val + (x 0).val, by
      have := (wid L).isLt; have := idx2_lt0 (n0 := 4) (n1 := 128) x; omega⟩ : Fin 128) (x 1)) := fun x => by
    have := hC (x 0) (x 1)
    rwa [show (ValueIdx.ix2 (x 0) (x 1) : S4x128.Idx) = x from funext fun a => match a with | 0 => rfl | 1 => rfl] at this
  have hin : ∀ c x, ((offsC idxM c).view.read (Elt F) ((catsS L cats).view.read (Elt F) fc) x).toNat < 100000 := fun c x => by
    rw [read_offsC, hcc]; exact hlt _
  have hprog : featAt (F := F) L cats tab off inb s1 s2 >>= k = .op (.enqueueDma (catsS L cats) (.here idxM) (.dma s1.sem) (View.wordExact_bits rfl) (Memref.isWhole_whole _).wordExact ⟨Or.inl rfl, trivial⟩) fun _ =>
      .op (.waitDma2 s1.sem (catsS L cats) idxM (View.wordExact_bits rfl) (Memref.isWhole_whole _).wordExact) fun _ =>
      (gathersProg L tab idxM rowsM cc0_scratch2 >>= fun _ =>
      .op (.enqueueDma rowsM (.here (outS outM off inb)) (.dma s2.sem) (Memref.isWhole_whole _).wordExact (View.wordExact_bits rfl) ⟨Or.inl rfl, trivial⟩) fun _ =>
      .op (.waitDma2 s2.sem rowsM (outS outM off inb) (Memref.isWhole_whole _).wordExact (View.wordExact_bits rfl)) k) := rfl
  rw [hprog]
  have hrs : rowsM.view.set = Finset.univ := View.set_whole _
  have his : idxM.view.set = Finset.univ := View.set_whole _
  unfold tileSt
  iintro ⟨⟨⟨%fr, Hr⟩, ⟨%fi, Hi⟩, Hg, ⟨%fo, %hfo, Ho⟩, ⟨%W₁, %hW₁, HO⟩⟩, Hc, Ht, H1, H2, #Hmw⟩ Hk
  ihave Hcs := (pointsTo_split_subset (q := q) (f := fc) (S := Finset.univ) (Finset.subset_univ (catsS L cats).view.set)).1 $$ Hc
  icases Hcs with ⟨Hcs, Hcr⟩
  ihave Hts := (pointsTo_split_subset (q := q) (f := ft) (S := Finset.univ) (Finset.subset_univ (tabS tab).view.set)).1 $$ Ht
  icases Hts with ⟨Hts, Htr⟩
  iapply (Transfers.wp_dmaLocal countersEmb 𝒱₀ (thr d L) none (src := catsS L cats) (dst := idxM) (sm := SemLoc.dma s1.sem) (q := q) (fs := fc) (Sd := Finset.univ) (fd := fi)
    (default : HIx 1) (idxM.view.amount (SemLoc.dma s1.sem)) rfl (by show 0 < idxM.view.dmaCredit; decide) (Finset.subset_univ _)) $$ [Hcs Hi H1]
  · isplitl [Hcs]; · iexact Hcs
    isplitl [Hi]; · iexact Hi
    iexact H1
  iintro Hfl
  iapply (Transfers.wp_waitLocalO countersEmb 𝒱₀ (thr d L) none (default : HIx 1) (rfl : idxM.view.dmaCredit = _)) $$ [Hfl HO]
  · isplitl [Hfl]; · iexact Hfl
    isplitl [HO]; · iexact HO
    iapply (Transfers.MayWaits.elim (SemLoc.dma s1.sem)) $$ Hmw
  iintro ⟨⟨Hi, Hcs⟩, H1, HO⟩
  iapply (wp_gathers d L tab q ft ((catsS L cats).view.read (Elt F) fc) fr cc0_scratch2 hin O (insert (SemLoc.dma s1.sem, default) W₁) _ _) $$ [Hts Hr Hi Hg HO]
  · isplitl [Hts]; · iexact Hts
    isplitl [Hr]; · iexact Hr
    isplitl [Hi]
    · iapply (Entails.of_eq (congrArg (fun z => (idxM.view.loc (thr d L) ↦{fullShare} z : sProp 𝕄)) (View.write_whole_univ (Val := Elt F) (b := cc0_scratch0) (f := fi) _)))
      iexact Hi
    isplitl [Hg]; · iexact Hg
    isplitl [HO]; · iexact HO
    iexact Hmw
  iintro ⟨Hts, Hr, Hi, Hg, HO⟩
  rw [hT]
  iapply (Transfers.wp_dmaLocal countersEmb 𝒱₀ (thr d L) none (src := rowsM) (dst := outS outM off inb) (sm := SemLoc.dma s2.sem) (q := fullShare)
    (fs := gRows (Tb f) ((catsS L cats).view.read (Elt F) fc)) (Sd := blk (wid L)) (fd := fo)
    (default : HIx 1) ((outS outM off inb).view.amount (SemLoc.dma s2.sem)) rfl (by show 0 < (outS outM ![0, 0] (by decide)).view.dmaCredit; decide) (outS_sub L f off inb hoff)) $$ [Hr Ho H2]
  · isplitl [Hr]; · rw [hrs]; iexact Hr
    isplitl [Ho]; · iexact Ho
    iexact H2
  iintro Hfl
  iapply (Transfers.wp_waitLocalO countersEmb 𝒱₀ (thr d L) none (default : HIx 1) (rfl : (outS outM off inb).view.dmaCredit = _)) $$ [Hfl HO]
  · isplitl [Hfl]; · iexact Hfl
    isplitl [HO]; · iexact HO
    iapply (Transfers.MayWaits.elim (SemLoc.dma s2.sem)) $$ Hmw
  iintro ⟨⟨Ho, Hr⟩, H2, HO⟩
  ihave Hc := (pointsTo_split_subset (q := q) (f := fc) (S := Finset.univ) (Finset.subset_univ (catsS L cats).view.set)).2 $$ [Hcs Hcr]
  · isplitl [Hcs] <;> iassumption
  ihave Ht := (pointsTo_split_subset (q := q) (f := ft) (S := Finset.univ) (Finset.subset_univ (tabS tab).view.set)).2 $$ [Hts Htr]
  · isplitl [Hts] <;> iassumption
  iapply Hk
  isplitr [Hc Ht H1 H2]
  · isplitl [Hr]; · rw [hrs]; iexists _; iexact Hr
    isplitl [Hi]; · iexists _; iexact Hi
    isplitl [Hg]; · iexact Hg
    isplitl [Ho]
    · iexists ((outS outM off inb).view.write (Elt F) fo (gRows (Tb f) ((catsS L cats).view.read (Elt F) fc)) Finset.univ)
      isplitr
      · ipureintro; exact write_outS L f off inb hoff Tb C fo _ hC hfo
      iexact Ho
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW₁ p hp
  isplitl [Hc]; · iexact Hc
  isplitl [Ht]; · iexact Ht
  isplitl [H1]; · iexact H1
  iexact H2

end Feature

end Cert.Proof

end
-- ==== Proof.TileRun.lean ====
/-
  The gather kernel on one tile from what the launch hands it: shares of the index arrays and tables, the tile's rows of
  the embeddings' array, its scratch buffers and its semaphores.
-/
module

public import proofs.«01_k».proof.Proof.Tile

@[expose] public section

noncomputable section

namespace Cert.Proof

open Cert.KernelIdeal Cert.KernelIdeal.Gen

open Idealize.ShloMosaic Idealize.ShloMosaic.ValueIdx
open Idealize.ShloMosaic.SparseCore (V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => 𝕄M F

/-! ## The operands -/

/-- An array of the host program's, on device `d`. -/
abbrev locT (d : Dev nD) (b : Ref sig .tc) : Loc nD τ sig := (SparseCore.T d : Thread nD τ).loc b

/-- The eight index arrays at share `q`. -/
abbrev catsPts (d : Dev nD) (q : PosShare TreeShare) (C : Fin 8 → S128x128.Idx → Elt F .i32) : sProp 𝕄 :=
  iprop((locT d main_v0 ↦{q} C 0) ∗ (locT d main_v1 ↦{q} C 1) ∗ (locT d main_v2 ↦{q} C 2) ∗ (locT d main_v3 ↦{q} C 3)
    ∗ (locT d main_v4 ↦{q} C 4) ∗ (locT d main_v5 ↦{q} C 5) ∗ (locT d main_v6 ↦{q} C 6) ∗ (locT d main_v7 ↦{q} C 7))
/-- The eight tables at share `q`. -/
abbrev tabsPts (d : Dev nD) (q : PosShare TreeShare) (Tb : Fin 8 → S100000x128.Idx → Elt F .f32) : sProp 𝕄 :=
  iprop((locT d main_arg9 ↦{q} Tb 0) ∗ (locT d main_arg10 ↦{q} Tb 1) ∗ (locT d main_arg11 ↦{q} Tb 2) ∗ (locT d main_arg12 ↦{q} Tb 3)
    ∗ (locT d main_arg13 ↦{q} Tb 4) ∗ (locT d main_arg14 ↦{q} Tb 5) ∗ (locT d main_arg15 ↦{q} Tb 6) ∗ (locT d main_arg16 ↦{q} Tb 7))
/-- Tile `w`'s rows of the embeddings' array at contents `f`. -/
abbrev blkPts (d : Dev nD) (w : Fin 32) (f : S16384x1024.Idx → Elt F .f32) : sProp 𝕄 := locT d main_v8 ↦[blk w]{fullShare} f

variable (d : Dev nD) (L : grid0.Coords)

/-! ## The tile's semaphores and scratch buffers among its own -/

/-- The kernel's seventeen semaphores by number. -/
abbrev semN (n : Fin 17) : SemLoc sig := .dma ⟨n.val, by have := n.isLt; show n.val < 28; omega⟩

theorem bigSep_seventeen (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  rw [show (Finset.univ : Finset (Fin 17)) = {0, 1, 2, 3, 4, 5, 6, 7, 8, 9, 10, 11, 12, 13, 14, 15, 16} by decide]
  repeat rw [SparseCore.bigSep_insert' (by decide)]
  rw [bigSep_singleton]

theorem ownSems0_V :
    (ownSems0 (thr d L) : sProp 𝕄)
      = iprop((bigSep Finset.univ fun n : Fin 17 => semVal (thr d L, semN n) 0)
          ∗ bigSep (ownCells (thr d L) \ (Finset.univ.image fun n : Fin 17 => ((thr d L, semN n) : GSem nD τ sig))) fun g => semVal g 0) := by
  unfold SparseCore.Cfg.ownSems0
  rw [SparseCore.bigSep_sdiff_split' (t := Finset.univ.image fun n : Fin 17 => ((thr d L, semN n) : GSem nD τ sig)) (by
      intro g hg
      obtain ⟨n, -, rfl⟩ := Finset.mem_image.mp hg
      refine mem_ownCells.mpr ⟨rfl, ?_⟩
      show (semN n).isScoped .scVector = true
      clear hg; revert n; decide),
    SparseCore.bigSep_image_of_injOn (by
      intro a _ b _ h
      have h2 : semN a = semN b := congrArg Prod.snd h
      have h3 := SemLoc.dma.inj h2
      exact Fin.ext (by simpa using h3))]

/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The operands as a feature reads them -/

theorem catsRow (a : Fin 4) : 8 * (L 1).val + 4 * (L 0).val + a.val < 128 := by
  have := core_lt L; have := sub_lt L; omega

theorem embCats (a : Fin 4) (b : Fin 128) :
    (Rect.unit (s := S128x128) (k0_off1 L) S4x128.size (k0_off1_inb L)).emb (ValueIdx.ix2 a b)
      = (ValueIdx.ix2 (⟨4 * (wid L).val + a.val, by have := (wid L).isLt; omega⟩ : Fin 128) b : S128x128.Idx) := by
  have h := k0_off1_eq L
  funext i
  match i with
  | 0 =>
    refine Fin.ext ?_
    rw [Rect.emb_apply]
    show k0_off1 L 0 + 1 * a.val = 4 * (2 * (L 1).val + (L 0).val) + a.val
    rw [h]
    show 8 * (L 1).val + 4 * (L 0).val + 1 * a.val = _
    omega
  | 1 =>
    refine Fin.ext ?_
    rw [Rect.emb_apply]
    show k0_off1 L 1 + 1 * b.val = b.val
    rw [h]
    show 0 + 1 * b.val = _
    omega

theorem embTab (x : S100000x128.Idx) :
    (Rect.unit (s := S100000x128) ![0, 0] S100000x128.size inb_S100000x128_S100000x128_0_0).emb x = x := by
  funext i
  match i with
  | 0 => exact Fin.ext (by rw [Rect.emb_apply]; show 0 + 1 * (x 0).val = _; omega)
  | 1 => exact Fin.ext (by rw [Rect.emb_apply]; show 0 + 1 * (x 1).val = _; omega)

variable [FloatOps F]

section Body

variable (Tb : Fin 8 → S100000x128.Idx → Elt F .f32) (C : Fin 8 → S128x128.Idx → Elt F .i32)

set_option maxRecDepth 20000 in
set_option maxHeartbeats 8000000 in
/-- The kernel on tile `L` of device `d`. -/
theorem tile_body (hF : (K (F := F)).Facts) (q : PosShare TreeShare) (fo : S16384x1024.Idx → Elt F .f32)
    (hlt : ∀ f x, (C f x).toNat < 100000) (O : CellTallies nD τ sig (HIx 1)) (W : Waits sig (HIx 1)) (hO : ∀ g, O g none = 0) :
    iprop(levAts (K (F := F)).L (K (F := F)).lev ∗ emp
        ∗ (catsPts d q C ∗ tabsPts d q Tb ∗ blkPts d (wid L) fo)
        ∗ scopedBufs (thr d L) ∗ scopedSems0 (thr d L) ∗ owes (thr d L) O W)
      ⊢ wp frame (wpE (defs₀ (F := F)) 𝒱₀ (thr d L) none) Set.univ (tileProg L)
          fun _ => iprop((catsPts d q C ∗ tabsPts d q Tb ∗ blkPts d (wid L) (embG Tb C))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V, bigSep_seventeen]
  have hprog : tileProg (F := F) L = (
    featAt L (Memref.whole main_v0_scv) (Memref.whole main_arg9_scv) (k0_off2 L) (k0_off2_inb L) cc0_scoped0 cc0_scoped1 >>= fun _ =>
    featAt L (Memref.whole main_v1_scv) (Memref.whole main_arg10_scv) (k0_off3 L) (k0_off3_inb L) cc0_scoped2 cc0_scoped3 >>= fun _ =>
    featAt L (Memref.whole main_v2_scv) (Memref.whole main_arg11_scv) (k0_off4 L) (k0_off4_inb L) cc0_scoped4 cc0_scoped5 >>= fun _ =>
    featAt L (Memref.whole main_v3_scv) (Memref.whole main_arg12_scv) (k0_off5 L) (k0_off5_inb L) cc0_scoped6 cc0_scoped7 >>= fun _ =>
    featAt L (Memref.whole main_v4_scv) (Memref.whole main_arg13_scv) (k0_off6 L) (k0_off6_inb L) cc0_scoped8 cc0_scoped9 >>= fun _ =>
    featAt L (Memref.whole main_v5_scv) (Memref.whole main_arg14_scv) (k0_off7 L) (k0_off7_inb L) cc0_scoped10 cc0_scoped11 >>= fun _ =>
    featAt L (Memref.whole main_v6_scv) (Memref.whole main_arg15_scv) (k0_off8 L) (k0_off8_inb L) cc0_scoped12 cc0_scoped13 >>= fun _ =>
    featAt L (Memref.whole main_v7_scv) (Memref.whole main_arg16_scv) (k0_off9 L) (k0_off9_inb L) cc0_scoped14 cc0_scoped15 >>= fun u => .ret u) := rfl
  rw [hprog]
  iintro ⟨#Hlv, -, ⟨⟨C0, C1, C2, C3, C4, C5, C6, C7⟩, ⟨T0, T1, T2, T3, T4, T5, T6, T7⟩, Ho⟩, ⟨⟨%fs, Hs⟩, ⟨%fr, Hr⟩, Hbufs⟩,
    ⟨⟨S0, S1, S2, S3, S4, S5, S6, S7, S8, S9, S10, S11, S12, S13, S14, S15, S16⟩, Hsems⟩, HO⟩
  ihave Hmw := (show levAts (K (F := F)).L (K (F := F)).lev ⊢ Transfers.MayWaits (thr d L) (default : HIx 1) O from
    (K (F := F)).mayWaits_none (thr := thr d L) hO) $$ Hlv
  icases Hmw with #Hmw
  ihave Hst : tileSt d L Tb C O W 0 $$ [Hs Hr S0 Ho HO]
  · unfold tileSt
    isplitl [Hr]; · iexists fr; iexact Hr
    isplitl [Hs]; · iexists fs; iexact Hs
    isplitl [S0]; · iexact S0
    isplitl [Ho]
    · iexists fo; isplitr
      · ipureintro; intro x _ h; exact absurd h (Nat.not_lt_zero _)
      iexact Ho
    iexists W; isplitr
    · ipureintro; exact fun p hp => .inl hp
    iexact HO
  iapply (wp_feature d L Tb C O W (Memref.whole main_v0_scv) (Memref.whole main_arg9_scv) q (C 0) (Tb 0) 0 (k0_off2 L) (k0_off2_inb L) cc0_scoped0 cc0_scoped1
    (k0_off2_eq L) (fun a b => congrArg (C 0) (embCats L a b)) (funext fun x => congrArg (Tb 0) (embTab x)) (hlt 0) _ _) $$ [Hst C0 T0 S1 S2]
  · isplitl [Hst]; · iexact Hst
    isplitl [C0]; · iexact C0
    isplitl [T0]; · iexact T0
    isplitl [S1]; · iexact S1
    isplitl [S2]; · iexact S2
    iexact Hmw
  iintro ⟨Hst, C0, T0, S1, S2⟩
  iapply (wp_feature d L Tb C O W (Memref.whole main_v1_scv) (Memref.whole main_arg10_scv) q (C 1) (Tb 1) 1 (k0_off3 L) (k0_off3_inb L) cc0_scoped2 cc0_scoped3
    (k0_off3_eq L) (fun a b => congrArg (C 1) (embCats L a b)) (funext fun x => congrArg (Tb 1) (embTab x)) (hlt 1) _ _) $$ [Hst C1 T1 S3 S4]
  · isplitl [Hst]; · iexact Hst
    isplitl [C1]; · iexact C1
    isplitl [T1]; · iexact T1
    isplitl [S3]; · iexact S3
    isplitl [S4]; · iexact S4
    iexact Hmw
  iintro ⟨Hst, C1, T1, S3, S4⟩
  iapply (wp_feature d L Tb C O W (Memref.whole main_v2_scv) (Memref.whole main_arg11_scv) q (C 2) (Tb 2) 2 (k0_off4 L) (k0_off4_inb L) cc0_scoped4 cc0_scoped5
    (k0_off4_eq L) (fun a b => congrArg (C 2) (embCats L a b)) (funext fun x => congrArg (Tb 2) (embTab x)) (hlt 2) _ _) $$ [Hst C2 T2 S5 S6]
  · isplitl [Hst]; · iexact Hst
    isplitl [C2]; · iexact C2
    isplitl [T2]; · iexact T2
    isplitl [S5]; · iexact S5
    isplitl [S6]; · iexact S6
    iexact Hmw
  iintro ⟨Hst, C2, T2, S5, S6⟩
  iapply (wp_feature d L Tb C O W (Memref.whole main_v3_scv) (Memref.whole main_arg12_scv) q (C 3) (Tb 3) 3 (k0_off5 L) (k0_off5_inb L) cc0_scoped6 cc0_scoped7
    (k0_off5_eq L) (fun a b => congrArg (C 3) (embCats L a b)) (funext fun x => congrArg (Tb 3) (embTab x)) (hlt 3) _ _) $$ [Hst C3 T3 S7 S8]
  · isplitl [Hst]; · iexact Hst
    isplitl [C3]; · iexact C3
    isplitl [T3]; · iexact T3
    isplitl [S7]; · iexact S7
    isplitl [S8]; · iexact S8
    iexact Hmw
  iintro ⟨Hst, C3, T3, S7, S8⟩
  iapply (wp_feature d L Tb C O W (Memref.whole main_v4_scv) (Memref.whole main_arg13_scv) q (C 4) (Tb 4) 4 (k0_off6 L) (k0_off6_inb L) cc0_scoped8 cc0_scoped9
    (k0_off6_eq L) (fun a b => congrArg (C 4) (embCats L a b)) (funext fun x => congrArg (Tb 4) (embTab x)) (hlt 4) _ _) $$ [Hst C4 T4 S9 S10]
  · isplitl [Hst]; · iexact Hst
    isplitl [C4]; · iexact C4
    isplitl [T4]; · iexact T4
    isplitl [S9]; · iexact S9
    isplitl [S10]; · iexact S10
    iexact Hmw
  iintro ⟨Hst, C4, T4, S9, S10⟩
  iapply (wp_feature d L Tb C O W (Memref.whole main_v5_scv) (Memref.whole main_arg14_scv) q (C 5) (Tb 5) 5 (k0_off7 L) (k0_off7_inb L) cc0_scoped10 cc0_scoped11
    (k0_off7_eq L) (fun a b => congrArg (C 5) (embCats L a b)) (funext fun x => congrArg (Tb 5) (embTab x)) (hlt 5) _ _) $$ [Hst C5 T5 S11 S12]
  · isplitl [Hst]; · iexact Hst
    isplitl [C5]; · iexact C5
    isplitl [T5]; · iexact T5
    isplitl [S11]; · iexact S11
    isplitl [S12]; · iexact S12
    iexact Hmw
  iintro ⟨Hst, C5, T5, S11, S12⟩
  iapply (wp_feature d L Tb C O W (Memref.whole main_v6_scv) (Memref.whole main_arg15_scv) q (C 6) (Tb 6) 6 (k0_off8 L) (k0_off8_inb L) cc0_scoped12 cc0_scoped13
    (k0_off8_eq L) (fun a b => congrArg (C 6) (embCats L a b)) (funext fun x => congrArg (Tb 6) (embTab x)) (hlt 6) _ _) $$ [Hst C6 T6 S13 S14]
  · isplitl [Hst]; · iexact Hst
    isplitl [C6]; · iexact C6
    isplitl [T6]; · iexact T6
    isplitl [S13]; · iexact S13
    isplitl [S14]; · iexact S14
    iexact Hmw
  iintro ⟨Hst, C6, T6, S13, S14⟩
  iapply (wp_feature d L Tb C O W (Memref.whole main_v7_scv) (Memref.whole main_arg16_scv) q (C 7) (Tb 7) 7 (k0_off9 L) (k0_off9_inb L) cc0_scoped14 cc0_scoped15
    (k0_off9_eq L) (fun a b => congrArg (C 7) (embCats L a b)) (funext fun x => congrArg (Tb 7) (embTab x)) (hlt 7) _ _) $$ [Hst C7 T7 S15 S16]
  · isplitl [Hst]; · iexact Hst
    isplitl [C7]; · iexact C7
    isplitl [T7]; · iexact T7
    isplitl [S15]; · iexact S15
    isplitl [S16]; · iexact S16
    iexact Hmw
  iintro ⟨Hst, C7, T7, S15, S16⟩
  rw [wp_ret]
  unfold tileSt
  icases Hst with ⟨⟨%fr', Hr⟩, ⟨%fs', Hs⟩, S0, ⟨%fo', %hfo, Ho⟩, HO⟩
  imodintro
  isplitl [C0 C1 C2 C3 C4 C5 C6 C7 T0 T1 T2 T3 T4 T5 T6 T7 Ho]
  · isplitl [C0 C1 C2 C3 C4 C5 C6 C7]
    · isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [T0 T1 T2 T3 T4 T5 T6 T7]
    · isplitl [T0]; · iexact T0
      isplitl [T1]; · iexact T1
      isplitl [T2]; · iexact T2
      isplitl [T3]; · iexact T3
      isplitl [T4]; · iexact T4
      isplitl [T5]; · iexact T5
      isplitl [T6]; · iexact T6
      iexact T7
    iapply (Entails.of_eq (pointsTo_congr (ℓ := locT d main_v8) (q := fullShare) fun x hx => hfo x hx (by
      have := idx2_lt1 (n0 := 16384) (n1 := 1024) x; show (x 1).val < 128 * (7 + 1); omega)))
    iexact Ho
  isplitl [Hs Hr Hbufs]
  · isplitl [Hs]; · iexists fs'; iexact Hs
    isplitl [Hr]; · iexists fr'; iexact Hr
    iexact Hbufs
  isplitl [S0 S1 S2 S3 S4 S5 S6 S7 S8 S9 S10 S11 S12 S13 S14 S15 S16 Hsems]
  · isplitr [Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      iexact S16
    iexact Hsems
  iexact HO

end Body

end Cert.Proof

end
-- ==== Proof.Call.lean ====
/-
  The SparseCore call: what its handshakes carry, the tasks' obligation, and the operands dealt to the thirty-two tiles
  and gathered again.
-/
module

public import proofs.«01_k».proof.Proof.TileRun

@[expose] public section

noncomputable section

namespace Cert.Proof

open Cert.KernelIdeal Cert.KernelIdeal.Gen

open Idealize.ShloMosaic Idealize.ShloMosaic.ValueIdx
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => 𝕄M F

/-- Tile `w`'s share of an operand every tile reads. -/
abbrev shareOf (w : Fin 32) : PosShare TreeShare := ShareLeaves.leaf 5 fullShare w

/-- The tile of core `c` and subcore `i`. -/
abbrev tileOf (c : Fin 2) (i : Fin 16) : Fin 32 := ⟨2 * i.val + c.val, by omega⟩

/-- What one tile is handed, the embeddings' array at contents `f`. -/
abbrev tilePts (Tb : Fin 8 → S100000x128.Idx → Elt F .f32) (C : Fin 8 → S128x128.Idx → Elt F .i32) (f : S16384x1024.Idx → Elt F .f32)
    (d : Dev nD) (w : Fin 32) : sProp 𝕄 :=
  iprop(catsPts d (shareOf w) C ∗ tabsPts d (shareOf w) Tb ∗ blkPts d w f)

section Payload

variable (Tb : Dev nD → Fin 8 → S100000x128.Idx → Elt F .f32) (C : Dev nD → Fin 8 → S128x128.Idx → Elt F .i32)
  (fo : Dev nD → S16384x1024.Idx → Elt F .f32)

abbrev goPts (d : Dev nD) (c : Fin 2) (i : Fin 16) : sProp 𝕄 := tilePts (Tb d) (C d) (fo d) d (tileOf c i)
abbrev tdPts (d : Dev nD) (c : Fin 2) (i : Fin 16) : sProp 𝕄 := tilePts (Tb d) (C d) (embG (Tb d) (C d)) d (tileOf c i)
abbrev stPts (d : Dev nD) (c : Fin 2) : sProp 𝕄 := bigSep Finset.univ fun i : Fin 16 => goPts Tb C fo d c i
abbrev dnPts (d : Dev nD) (c : Fin 2) : sProp 𝕄 := bigSep Finset.univ fun i : Fin 16 => tdPts Tb C d c i

/-- A core takes its sixteen tiles' operands; a tile brings its operands back, its rows of the array filled. -/
def P : (K (F := F)).Pay (nD := nD) (Val := Elt F) (Name := ℕ) (U := UU) where
  st := fun q d c => match q with | 0 => stPts Tb C fo d c
  dn := fun q d c => match q with | 0 => dnPts Tb C d c
  go := fun q d c i => match q with | 0 => goPts Tb C fo d c i
  td := fun q d c i => match q with | 0 => tdPts Tb C d c i
  x := fun _ _ => iprop(emp)

instance P_storable : (P (F := F) Tb C fo).IsStorable where
  st q d c := match q with
    | 0 => (inferInstance : BI.Storable (upEmb : UEmb _ 𝕄) (stPts Tb C fo d c))
  dn q d c := match q with
    | 0 => (inferInstance : BI.Storable (upEmb : UEmb _ 𝕄) (dnPts Tb C d c))
  go q d c i := match q with
    | 0 => (inferInstance : BI.Storable (upEmb : UEmb _ 𝕄) (goPts Tb C fo d c i))
  td q d c i := match q with
    | 0 => (inferInstance : BI.Storable (upEmb : UEmb _ 𝕄) (tdPts Tb C d c i))

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hlt : ∀ d f x, (C d f x).toNat < 100000) :
    (K (F := F)).TileObl (D (F := F)) 𝒱 (P Tb C fo) v₀ 0 := by
  intro d c i O W hO _ _
  simp only [show (P Tb C fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (Tb d) (C d) hF _ (fo d) (hlt d) O W hO).trans (wp_mono frame _ _ fun _ => obl_post)

theorem vecSplit : (K (F := F)).VecSplit' (P Tb C fo) 0 := by
  intro d c
  show stPts Tb C fo d c ⊢ |={Set.univ}=> iprop((bigSep Finset.univ fun i : Fin 16 => goPts Tb C fo d c i)
    ∗ ((bigSep Finset.univ fun i : Fin 16 => tdPts Tb C d c i) -∗ dnPts Tb C d c))
  iintro H; imodintro
  isplitl [H]; · iexact H
  iintro H; iexact H

end Payload

/-! ## The operands dealt to the tiles -/

theorem blk_disjoint : ∀ i ∈ (Finset.univ : Finset (Fin 32)), ∀ j ∈ (Finset.univ : Finset (Fin 32)), i ≠ j → Disjoint (blk i) (blk j) :=
  fun i _ j _ h => Finset.disjoint_left.mpr fun x hx hy => h (Fin.ext (((mem_blk i x).mp hx).symm.trans ((mem_blk j x).mp hy)))
theorem blk_cover : (Finset.univ : Finset (Fin 32)).biUnion blk = Finset.univ := by
  ext x
  simp only [Finset.mem_biUnion, Finset.mem_univ, _root_.true_and, iff_true]
  have := idx2_lt0 (n0 := 16384) (n1 := 1024) x
  exact ⟨⟨(x 0).val / 512, by omega⟩, (mem_blk _ x).mpr rfl⟩

theorem out_blks (d : Dev nD) (f : S16384x1024.Idx → Elt F .f32) :
    (locT d main_v8 ↦{fullShare} f : sProp 𝕄) = bigSep Finset.univ fun w : Fin 32 => blkPts d w f := by
  refine Eq.trans ?_ (pointsTo_biUnion Finset.univ (ℓ := locT d main_v8) blk blk_disjoint)
  rw [blk_cover]

theorem shares {ℓ : Loc nD τ sig} (f : Buf (Elt F) ℓ) :
    (ℓ ↦{fullShare} f : sProp 𝕄) = bigSep Finset.univ fun w : Fin 32 => ℓ ↦{shareOf w} f :=
  ShareLeaves.pointsTo_leaves Finset.univ f 5 fullShare

theorem tiles_eq (Tb : Fin 8 → S100000x128.Idx → Elt F .f32) (C : Fin 8 → S128x128.Idx → Elt F .i32) (f : S16384x1024.Idx → Elt F .f32) (d : Dev nD) :
    (iprop(catsPts d fullShare C ∗ tabsPts d fullShare Tb ∗ (locT d main_v8 ↦{fullShare} f)) : sProp 𝕄)
      = bigSep Finset.univ fun w : Fin 32 => tilePts Tb C f d w := by
  unfold tilePts catsPts tabsPts
  simp only [bigSep_sep']
  rw [out_blks]
  repeat rw [shares]

/-- Thirty-two tiles are two cores of sixteen. -/
theorem bigSep_tiles (Φ : Fin 32 → sProp 𝕄) :
    bigSep Finset.univ Φ = bigSep Finset.univ fun c : Fin 2 => bigSep Finset.univ fun i : Fin 16 => Φ (tileOf c i) := by
  refine (bigSep_univ_equiv ((Equiv.prodComm (Fin 2) (Fin 16)).trans (finProdFinEquiv (m := 16) (n := 2))) Φ).trans ?_
  refine (bigSep_congr (Ψ := fun p : Fin 2 × Fin 16 => Φ (tileOf p.1 p.2)) fun p _ => congrArg Φ (Fin.ext ?_)).trans
    (bigSep_univ_prod fun p : Fin 2 × Fin 16 => Φ (tileOf p.1 p.2))
  show p.1.val + 2 * p.2.val = 2 * p.2.val + p.1.val
  omega

section Ends

variable (Tb : Dev nD → Fin 8 → S100000x128.Idx → Elt F .f32) (C : Dev nD → Fin 8 → S128x128.Idx → Elt F .i32)
  (fo : Dev nD → S16384x1024.Idx → Elt F .f32) (d : Dev nD)

theorem st_eq : (bigSep Finset.univ fun c : Fin ((K (F := F)).nCore 0) => (P Tb C fo).st 0 d c)
    = iprop(catsPts d fullShare (C d) ∗ tabsPts d fullShare (Tb d) ∗ (locT d main_v8 ↦{fullShare} fo d)) :=
  ((tiles_eq (Tb d) (C d) (fo d) d).trans (bigSep_tiles _)).symm
theorem dn_eq : (bigSep Finset.univ fun c : Fin ((K (F := F)).nCore 0) => (P Tb C fo).dn 0 d c)
    = iprop(catsPts d fullShare (C d) ∗ tabsPts d fullShare (Tb d) ∗ (locT d main_v8 ↦{fullShare} embG (Tb d) (C d))) :=
  ((tiles_eq (Tb d) (C d) (embG (Tb d) (C d)) d).trans (bigSep_tiles _)).symm

end Ends

end Cert.Proof

end
-- ==== Proof.Mlp.lean ====
/-
  The multilayer kernel's body, run on its staging buffers.
-/
module

public import proofs.«01_k».proof.Proof.Setup
public import proofs.«01_k».proof.Proof.Gen.KernelIdeal.Skeleton
public import proofs.«01_k».proof.Proof.Gen.KernelIdeal.Points
public import Idealize.ShloMosaic.Lib.Pipeline.RegionArrays
public import Idealize.ShloMosaic.Lib.Pipeline.ValueKit
public import Idealize.ShloMosaic.Lib.VecWindow

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => 𝕄M F

/-- A memref's buffer on the TensorCore of `c`, held whole at `f`. -/
abbrev ptM (c : Dev nD) {S : Shape} {e : EltTy} (M : Memref sig .tc .vmem S e) (f : Buf (Elt F) (M.view.loc (c : Thread nD τ))) : sProp 𝕄 :=
  M.view.loc (c : Thread nD τ) ↦{fullShare} f

/-- A load of all of a memref reads its contents. -/
theorem readAt_full {S : Shape} {e : EltTy} (M : Memref sig .tc .vmem S e) {off : Fin S.rank → Nat} (inb : ∀ a, off a + S.size a ≤ S.size a)
    (f : M.view.ty.Contents (Elt F)) (h : ∀ a, off a = 0) :
    M.view.readAt (Elt F) (Rect.unit off S.size inb).toLoadRect f = M.view.read (Elt F) f :=
  View.ld_unit_lit inb (M.view.read (Elt F) f) h

theorem mlp_run (c : Dev nD) (i : grid1.Coords)
    (M1 : Memref sig .tc .vmem S512x1024 .f32) (h1 : M1.IsWhole) (M2 : Memref sig .tc .vmem S512x1 .f32) (h2 : M2.IsWhole)
    (M3 : Memref sig .tc .vmem S1024x1024 .bf16) (h3 : M3.IsWhole) (M4 : Memref sig .tc .vmem S1x1024 .f32) (h4 : M4.IsWhole)
    (M5 : Memref sig .tc .vmem S1x1024 .f32) (h5 : M5.IsWhole) (M6 : Memref sig .tc .vmem S1024x1024 .bf16) (h6 : M6.IsWhole)
    (M7 : Memref sig .tc .vmem S1x1024 .f32) (h7 : M7.IsWhole) (M8 : Memref sig .tc .vmem S512x1024 .f32) (h8 : M8.IsWhole)
    (f1 : Buf (Elt F) (M1.view.loc (c : Thread nD τ))) (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ)))
    (E : Set ℕ) (Q : PUnit → sProp 𝕄) :
    iprop(ptM c M1 f1 ∗ ptM c M2 f2 ∗ ptM c M3 f3 ∗ ptM c M4 f4 ∗ ptM c M5 f5 ∗ ptM c M6 f6 ∗ ptM c M7 f7 ∗ ptM c M8 f8
      ∗ (∀ g, ⌜M8.view.read (Elt F) g = k1_pay1 (M1.view.read (Elt F) f1) (M3.view.read (Elt F) f3) (M2.view.read (Elt F) f2) (M4.view.read (Elt F) f4)
            (M5.view.read (Elt F) f5) (M6.view.read (Elt F) f6) (M7.view.read (Elt F) f7)⌝
          -∗ ptM c M1 f1 ∗ ptM c M2 f2 ∗ ptM c M3 f3 ∗ ptM c M4 f4 ∗ ptM c M5 f5 ∗ ptM c M6 f6 ∗ ptM c M7 f7 ∗ ptM c M8 g -∗ Q ⟨⟩))
      ⊢ wp frame (wpE (defs₀ (F := F)) 𝒱₀ c none) E (cc1__mlp_body i M1 h1 M2 h2 M3 h3 M4 h4 M5 h5 M6 h6 M7 h7 M8 h8) Q := by
  rw [cc1__mlp_body_eq_skeleton]
  iintro ⟨H1, H2, H3, H4, H5, H6, H7, H8, Hk⟩
  sl_exec!
  sl_step
  ihave Hk := Hk $$ %_ []
  swap
  · iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · ipureintro
    unfold mlp_run.sl.H8_1
    rw [View.read_writes_full]
    congr 1 <;> exact readAt_full _ _ _ (by decide)

/-- A whole memref owned at contents `X` is its buffer held whole, reading `X`. -/
theorem owns_ptM (c : Dev nD) {S : Shape} {e : EltTy} (M : Memref sig .tc .vmem S e) (h : M.IsWhole) (X : S.Idx → Elt F e) :
    (owns (c.tc : Thread nD τ) M fullShare X : sProp 𝕄) = iprop(∃ f, ⌜M.view.read (Elt F) f = X⌝ ∗ ptM c M f) := by
  unfold owns; rw [h.set_eq_univ]

/-- The body over owned staging memrefs. -/
theorem mlp_owns (c : Dev nD) (i : grid1.Coords)
    (M1 : Memref sig .tc .vmem S512x1024 .f32) (h1 : M1.IsWhole) (M2 : Memref sig .tc .vmem S512x1 .f32) (h2 : M2.IsWhole)
    (M3 : Memref sig .tc .vmem S1024x1024 .bf16) (h3 : M3.IsWhole) (M4 : Memref sig .tc .vmem S1x1024 .f32) (h4 : M4.IsWhole)
    (M5 : Memref sig .tc .vmem S1x1024 .f32) (h5 : M5.IsWhole) (M6 : Memref sig .tc .vmem S1024x1024 .bf16) (h6 : M6.IsWhole)
    (M7 : Memref sig .tc .vmem S1x1024 .f32) (h7 : M7.IsWhole) (M8 : Memref sig .tc .vmem S512x1024 .f32) (h8 : M8.IsWhole)
    (X1 : S512x1024.Idx → Elt F .f32) (X2 : S512x1.Idx → Elt F .f32) (X3 : S1024x1024.Idx → Elt F .bf16) (X4 X5 : S1x1024.Idx → Elt F .f32)
    (X6 : S1024x1024.Idx → Elt F .bf16) (X7 : S1x1024.Idx → Elt F .f32) (X8 : S512x1024.Idx → Elt F .f32)
    (E : Set ℕ) (Q : PUnit → sProp 𝕄) :
    iprop(owns (c.tc : Thread nD τ) M1 fullShare X1 ∗ owns (c.tc : Thread nD τ) M2 fullShare X2 ∗ owns (c.tc : Thread nD τ) M3 fullShare X3
      ∗ owns (c.tc : Thread nD τ) M4 fullShare X4 ∗ owns (c.tc : Thread nD τ) M5 fullShare X5 ∗ owns (c.tc : Thread nD τ) M6 fullShare X6
      ∗ owns (c.tc : Thread nD τ) M7 fullShare X7 ∗ owns (c.tc : Thread nD τ) M8 fullShare X8
      ∗ (owns (c.tc : Thread nD τ) M1 fullShare X1 ∗ owns (c.tc : Thread nD τ) M2 fullShare X2 ∗ owns (c.tc : Thread nD τ) M3 fullShare X3
          ∗ owns (c.tc : Thread nD τ) M4 fullShare X4 ∗ owns (c.tc : Thread nD τ) M5 fullShare X5 ∗ owns (c.tc : Thread nD τ) M6 fullShare X6
          ∗ owns (c.tc : Thread nD τ) M7 fullShare X7 ∗ owns (c.tc : Thread nD τ) M8 fullShare (k1_pay1 X1 X3 X2 X4 X5 X6 X7) -∗ Q ⟨⟩))
      ⊢ wp frame (wpE (defs₀ (F := F)) 𝒱₀ c none) E (cc1__mlp_body i M1 h1 M2 h2 M3 h3 M4 h4 M5 h5 M6 h6 M7 h7 M8 h8) Q := by
  rw [owns_ptM c M1 h1, owns_ptM c M2 h2, owns_ptM c M3 h3, owns_ptM c M4 h4, owns_ptM c M5 h5, owns_ptM c M6 h6, owns_ptM c M7 h7,
    owns_ptM c M8 h8 X8, owns_ptM c M8 h8]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩, Hk⟩
  iapply (mlp_run c i M1 h1 M2 h2 M3 h3 M4 h4 M5 h5 M6 h6 M7 h7 M8 h8 f1 f2 f3 f4 f5 f6 f7 f8 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro %g %hg ⟨H1, H2, H3, H4, H5, H6, H7, H8⟩
  iapply Hk
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  isplitl [H5]; · iexists f5; isplitr; (· ipureintro; exact e5); iexact H5
  isplitl [H6]; · iexists f6; isplitr; (· ipureintro; exact e6); iexact H6
  isplitl [H7]; · iexists f7; isplitr; (· ipureintro; exact e7); iexact H7
  iexists g; isplitr; (· ipureintro; rw [hg, e1, e2, e3, e4, e5, e6, e7]); iexact H8

/-! ## The region's proof data, at the valuation it is entered at -/

variable (V : Dev nD → Valuation τ sig (Elt F))

/-- Window `w`'s array as the region finds it. -/
abbrev arrOf (c : Dev nD) (w : Fin 8) : Buf (Elt F) ((cfg1.win w).arr.view.loc (c.tc : Thread nD τ)) :=
  V c (Proc.devRef .tc (Pipeline.arrRef spec1 w))

/-- Window `w`'s block at point `t`. -/
abbrev blkOf (c : Dev nD) (w : Fin 8) (t : Fin cfg1.N) : ((cfg1.win w).xblock (cfg1.grid.coords t)).Idx → Elt F (cfg1.win w).elt :=
  ((cfg1.win w).blk t).view.read (Elt F) (arrOf V c w)

/-- What the body stores at point `t`. -/
def mlpBlk (c : Dev nD) (t : Fin cfg1.N) : FVec F S512x1024 .f32 :=
  k1_pay1 (blkOf V c 0 t) (blkOf V c 2 t) (blkOf V c 1 t) (blkOf V c 3 t) (blkOf V c 4 t) (blkOf V c 5 t) (blkOf V c 6 t)

/-- The region's proof data: each input's buffer left as fetched, the result's at what the body stores. -/
def mlpDat (c : Dev nD) : Dat τ (Elt F) (HIx 1) ℕ UU ℕ cfg1 c where
  A w := arrOf V c w
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => mlpBlk V c t
  Φ _ := BI.emp
  q _ := fullShare
  owed _ := 0

theorem before_w0 (c : Dev nD) (t : Fin cfg1.N) (d : (cfg1.win 0).block.Idx → Elt F (cfg1.win 0).elt) : (mlpDat V c).before 0 t d = blkOf V c 0 t :=
  (mlpDat V c).before_in_eq_fetched 0 rfl (fun _ => rfl) (fun _ _ _ => rfl) (fun _ => rfl) t d
theorem before_w1 (c : Dev nD) (t : Fin cfg1.N) (d : (cfg1.win 1).block.Idx → Elt F (cfg1.win 1).elt) : (mlpDat V c).before 1 t d = blkOf V c 1 t :=
  (mlpDat V c).before_in_eq_fetched 1 rfl (fun _ => rfl) (fun _ _ _ => rfl) (fun _ => rfl) t d
theorem before_w2 (c : Dev nD) (t : Fin cfg1.N) (d : (cfg1.win 2).block.Idx → Elt F (cfg1.win 2).elt) : (mlpDat V c).before 2 t d = blkOf V c 2 t :=
  (mlpDat V c).before_in_eq_fetched 2 rfl (fun _ => rfl) (fun _ _ _ => rfl) (fun _ => rfl) t d
theorem before_w3 (c : Dev nD) (t : Fin cfg1.N) (d : (cfg1.win 3).block.Idx → Elt F (cfg1.win 3).elt) : (mlpDat V c).before 3 t d = blkOf V c 3 t :=
  (mlpDat V c).before_in_eq_fetched 3 rfl (fun _ => rfl) (fun _ _ _ => rfl) (fun _ => rfl) t d
theorem before_w4 (c : Dev nD) (t : Fin cfg1.N) (d : (cfg1.win 4).block.Idx → Elt F (cfg1.win 4).elt) : (mlpDat V c).before 4 t d = blkOf V c 4 t :=
  (mlpDat V c).before_in_eq_fetched 4 rfl (fun _ => rfl) (fun _ _ _ => rfl) (fun _ => rfl) t d
theorem before_w5 (c : Dev nD) (t : Fin cfg1.N) (d : (cfg1.win 5).block.Idx → Elt F (cfg1.win 5).elt) : (mlpDat V c).before 5 t d = blkOf V c 5 t :=
  (mlpDat V c).before_in_eq_fetched 5 rfl (fun _ => rfl) (fun _ _ _ => rfl) (fun _ => rfl) t d
theorem before_w6 (c : Dev nD) (t : Fin cfg1.N) (d : (cfg1.win 6).block.Idx → Elt F (cfg1.win 6).elt) : (mlpDat V c).before 6 t d = blkOf V c 6 t :=
  (mlpDat V c).before_in_eq_fetched 6 rfl (fun _ => rfl) (fun _ _ _ => rfl) (fun _ => rfl) t d

theorem mlp_obligation (c : Dev nD) : BodyObligation (mlpDat V c) (defs₀ (F := F)) 𝒱₀ (none : HIx 1) Set.univ := fun t => by
  rw [bigSep_W1, bigSep_W1]
  rw [show (mlpDat V c).owesAt none t.succ = (mlpDat V c).owesAt none t.castSucc from rfl]
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_w0, before_w1, before_w2, before_w3, before_w4, before_w5, before_w6]
  iapply (mlp_owns (F := F) c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7))
    _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitr; · iempintro
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## What the region leaves in the result -/

/-- The result array: row `r` is row `r % 512` of what the body stores at point `r / 512`. -/
def mlpOut (c : Dev nD) : S16384x1024.Idx → Elt F .f32 := fun x =>
  mlpBlk V c ⟨(x 0).val / 512, by have h : (x 0).val < 16384 := (x 0).isLt; show _ < grid1.N; rw [N_1]; omega⟩
    (ValueIdx.ix2 ⟨(x 0).val % 512, Nat.mod_lt _ (by decide)⟩ (x 1))

theorem index1_7 : ∀ t : Fin grid1.N, win1_7.index t 0 = t.val ∧ win1_7.index t 1 = 0 := by decide +kernel

theorem mlp_arrAt (c : Dev nD) : (mlpDat V c).arrAt 7 cfg1.N = mlpOut V c := by
  refine (mlpDat V c).arrAt_eq_of_covers 7 _ (by decide +kernel) fun t hf y => ?_
  blk_simp
  show mlpBlk V c t y = mlpOut V c ((win1_7.rect t).emb y)
  obtain ⟨i0, i1⟩ := index1_7 t
  have y0 : (y 0).val < 512 := (y 0).isLt
  have e0 : ((win1_7.rect t).emb y 0 : Nat) = t.val * 512 + (y 0).val := (win1_7.rect_emb_val t y 0).trans (by rw [i0]; rfl)
  have e1 : ((win1_7.rect t).emb y 1 : Nat) = (y 1).val := (win1_7.rect_emb_val t y 1).trans (by rw [i1]; exact Nat.zero_add _)
  have hd : ∀ (t' : Fin cfg1.N) (y' : S512x1024.Idx), t'.val = t.val → (y' 0).val = (y 0).val → (y' 1).val = (y 1).val →
      mlpBlk V c t y = mlpBlk V c t' y' := fun t' y' ht h0 h1 => by
    obtain rfl := Fin.ext ht
    congr 1
    funext a
    fin_cases a
    · exact Fin.ext h0.symm
    · exact Fin.ext h1.symm
  exact hd _ _ (show ((win1_7.rect t).emb y 0 : Nat) / 512 = t.val by rw [e0]; omega)
    (show ((win1_7.rect t).emb y 0 : Nat) % 512 = (y 0).val by rw [e0]; omega) e1

/-! ## The region -/

abbrev adm0 : (p : Fin 1) → (pcfgs (F := F) p).Adm := fun p => (cfgs p).toPCfg_adm

/-- The proof data, for every pipeline of the program (there is one). -/
def mlpDats : (p : Fin 1) → (c : Dev nD) → Dat τ (Elt F) (HIx 1) ℕ UU ℕ (Pipeline.pin (pcfgs (F := F)) adm0 p) c
  | ⟨0, _⟩ => fun c => mlpDat V c

/-- The valuation the region leaves. -/
def mlpAfter (c : Dev nD) : Valuation τ sig (Elt F) := Function.update (V c) (Proc.devRef .tc main_v16) (mlpOut V c)

theorem kit1 : Pipeline.PLaunchFacts (nD := nD) (τ := τ) (pcfgs (F := F)) 0 := launch1.toP

theorem mlpAfter_out (c : Dev nD) : mlpAfter V c (Proc.devRef .tc main_v16) = mlpOut V c := by
  unfold mlpAfter; exact Function.update_self ..
theorem mlpAfter_of_ne (c : Dev nD) (b : DevRef τ sig) (h : b ≠ Proc.devRef .tc main_v16) : mlpAfter V c b = V c b := by
  unfold mlpAfter; exact Function.update_of_ne h ..

theorem mlpAfter_arr (c : Dev nD) (w : Fin 8) :
    (mlpDat V c).arrAt w cfg1.N = mlpAfter V c (Proc.devRef .tc (Pipeline.arrRef spec1 w)) := by
  have hin : ∀ w : Fin 8, w ≠ 7 → (cfg1.win w).isOut = false ∧ Proc.devRef (sig := sig) .tc (Pipeline.arrRef spec1 w) ≠ Proc.devRef (τ := τ) .tc main_v16 := by decide
  by_cases h : w = 7
  · subst h; exact (mlp_arrAt V c).trans (mlpAfter_out V c).symm
  · exact ((mlpDat V c).arrAt_in w (hin w h).1 _).trans (mlpAfter_of_ne V c _ (hin w h).2).symm

theorem emp_emp : (BI.emp : sProp 𝕄) ⊢ iprop(BI.emp ∗ BI.emp) := by
  iintro H
  isplitl [H]; · iexact H
  iempintro

def mlpReg : Pipeline.RegionSeg (pcfgs (F := F)) adm0 (mlpDats V) (none : HIx 1) defs₀ 𝒱₀ (K (F := F)).L (K (F := F)).lev 0 :=
  Pipeline.RegionSeg.ofHeld (pcfgs (F := F)) adm0 (mlpDats V) none defs₀ 𝒱₀ (K (F := F)).L (K (F := F)).lev 0 (fun _ => 0)
    (fun _ => BI.emp) (fun _ => BI.emp) kit1 rfl (fun c => (mlp_obligation V c).loose) (fun _ _ => rfl) (fun _ => rfl)
    (fun c w => (mlpDat V c).share_full (fun _ => rfl) w)
    (fun c => by rw [show Pipeline.scopedRest (Pipeline.pin (pcfgs (F := F)) adm0 0).spec c = Pipeline.scopedRest spec1 c from rfl, scopedRest1_eq]; exact sep_elim_left)
    (fun c => by rw [show Pipeline.scopedRest (Pipeline.pin (pcfgs (F := F)) adm0 0).spec c = Pipeline.scopedRest spec1 c from rfl, scopedRest1_eq]; exact emp_emp)
    (fun _ => 0)
    ⟨fun _ _ _ => Finset.mem_univ _, fun _ _ _ => le_rfl, fun _ _ _ h => absurd h (Nat.lt_irrefl 0)⟩
    (fun _ => BI.emp) V (mlpAfter V) (fun _ _ => rfl)
    (fun c w => mlpAfter_arr V c w)

end Cert.Proof

end
-- ==== Proof.Main.lean ====
/-
  @main on a TensorCore: the ids laid out in rows, the gathers, the weights cut and narrowed, the multilayer kernel; and the
  run of the whole program: every buffer a call does not scope ends at contents written here as a function of the launch's.
-/
module

public import proofs.«01_k».proof.Proof.Call
public import proofs.«01_k».proof.Proof.Mlp
public import Idealize.ShloMosaic.Lib.StableHlo.Run

@[expose] public section

noncomputable section

namespace Cert.Proof

open Cert.KernelIdeal Cert.KernelIdeal.Gen

open Idealize.ShloMosaic
open Idealize.ShloMosaic.StableHlo (held)
open Idealize.ShloMosaic.Pipeline (ucRefs)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => 𝕄M F

/-! ## @main in four parts -/

/-- The ids laid out in rows of 128. -/
def opsA : List (HloOp τ sig (Elt F)) :=
  [ StableHlo.reshape main_arg0 main_v0 (rfl : (.i32 : EltTy) = .i32) shapeCasts_S16384_S128x128,
    StableHlo.reshape main_arg1 main_v1 (rfl : (.i32 : EltTy) = .i32) shapeCasts_S16384_S128x128,
    StableHlo.reshape main_arg2 main_v2 (rfl : (.i32 : EltTy) = .i32) shapeCasts_S16384_S128x128,
    StableHlo.reshape main_arg3 main_v3 (rfl : (.i32 : EltTy) = .i32) shapeCasts_S16384_S128x128,
    StableHlo.reshape main_arg4 main_v4 (rfl : (.i32 : EltTy) = .i32) shapeCasts_S16384_S128x128,
    StableHlo.reshape main_arg5 main_v5 (rfl : (.i32 : EltTy) = .i32) shapeCasts_S16384_S128x128,
    StableHlo.reshape main_arg6 main_v6 (rfl : (.i32 : EltTy) = .i32) shapeCasts_S16384_S128x128,
    StableHlo.reshape main_arg7 main_v7 (rfl : (.i32 : EltTy) = .i32) shapeCasts_S16384_S128x128 ]

/-- The second stage's operands. -/
def opsB : List (HloOp τ sig (Elt F)) :=
  [ StableHlo.unary main_arg17 main_v9 ((extractStridedSlice S1024x1024 ![0, 0] · slices_S1025x1024_S1024x1024_0_0) : (⟨S1025x1024, .f32⟩ : BufTy).Contents (Elt F) → (⟨S1024x1024, .f32⟩ : BufTy).Contents (Elt F)),
    StableHlo.unary main_v9 main_v10 ((truncf .bf16 · bitsLt_bf16_f32) : (⟨S1024x1024, .f32⟩ : BufTy).Contents (Elt F) → (⟨S1024x1024, .bf16⟩ : BufTy).Contents (Elt F)),
    StableHlo.unary main_arg17 main_v11 ((extractStridedSlice S1x1024 ![1024, 0] · slices_S1025x1024_S1x1024_1024_0) : (⟨S1025x1024, .f32⟩ : BufTy).Contents (Elt F) → (⟨S1x1024, .f32⟩ : BufTy).Contents (Elt F)),
    StableHlo.unary main_arg8 main_v12 (broadcastInDim S16384x1 ![0] bcast_S16384_S16384x1_0 : (⟨S16384, .f32⟩ : BufTy).Contents (Elt F) → (⟨S16384x1, .f32⟩ : BufTy).Contents (Elt F)),
    StableHlo.unary main_arg18 main_v13 (broadcastInDim S1x1024 ![1] bcast_S1024_S1x1024_1 : (⟨S1024, .f32⟩ : BufTy).Contents (Elt F) → (⟨S1x1024, .f32⟩ : BufTy).Contents (Elt F)),
    StableHlo.unary main_arg19 main_v14 ((truncf .bf16 · bitsLt_bf16_f32) : (⟨S1024x1024, .f32⟩ : BufTy).Contents (Elt F) → (⟨S1024x1024, .bf16⟩ : BufTy).Contents (Elt F)),
    StableHlo.unary main_arg20 main_v15 (broadcastInDim S1x1024 ![1] bcast_S1024_S1x1024_1 : (⟨S1024, .f32⟩ : BufTy).Contents (Elt F) → (⟨S1x1024, .f32⟩ : BufTy).Contents (Elt F)) ]

theorem main_parts (d : Dev nD) : main (F := F) d
    = StableHlo.seq opsA >>= fun _ => sc.run d 0 >>= fun _ => StableHlo.seq opsB >>= fun _ =>
        Prog.lift (.customCall (SparseCore.inner (Pipeline.entry 0)) ()) >>= fun _ => pure ⟨⟩ := by
  simp only [opsA, opsB, StableHlo.seq, bind_assoc, pure_bind]
  rfl

theorem bufs_sub (ops : List (HloOp τ sig (Elt F))) (h : ∀ op ∈ ops, op.bufs ⊆ StableHlo.tcRefs τ sig) :
    ∀ op ∈ ops, op.bufs ⊆ ucRefs τ sig := fun op hop => Pipeline.sub_ucRefs op (h op hop)

theorem opsA_bufs : ∀ op ∈ opsA (F := F), op.bufs ⊆ ucRefs τ sig :=
  bufs_sub _ (by intro op h; (repeat (cases h with | head => exact StableHlo.reshape_bufs_sub .. | tail _ h => ?_)); exact nomatch h)
theorem opsB_bufs : ∀ op ∈ opsB (F := F), op.bufs ⊆ ucRefs τ sig :=
  bufs_sub _ (by intro op h; (repeat (cases h with | head => exact StableHlo.unary_bufs_sub .. | tail _ h => ?_)); exact nomatch h)
theorem opsA_fresh : ∀ op ∈ opsA (F := F), op.fresh = ∅ := by
  intro _ h; (repeat (cases h with | head => rfl | tail _ h => ?_)); exact nomatch h
theorem opsB_fresh : ∀ op ∈ opsB (F := F), op.fresh = ∅ := by
  intro _ h; (repeat (cases h with | head => rfl | tail _ h => ?_)); exact nomatch h

/-! ## The contents along the way -/

/-- The eight tables of a valuation. -/
def tabsOf (V : Valuation τ sig (Elt F)) : Fin 8 → S100000x128.Idx → Elt F .f32
  | 0 => V (Proc.devRef .tc main_arg9)
  | 1 => V (Proc.devRef .tc main_arg10)
  | 2 => V (Proc.devRef .tc main_arg11)
  | 3 => V (Proc.devRef .tc main_arg12)
  | 4 => V (Proc.devRef .tc main_arg13)
  | 5 => V (Proc.devRef .tc main_arg14)
  | 6 => V (Proc.devRef .tc main_arg15)
  | 7 => V (Proc.devRef .tc main_arg16)
/-- The eight features' rows of ids of a valuation. -/
def catsOf (V : Valuation τ sig (Elt F)) : Fin 8 → S128x128.Idx → Elt F .i32
  | 0 => V (Proc.devRef .tc main_v0)
  | 1 => V (Proc.devRef .tc main_v1)
  | 2 => V (Proc.devRef .tc main_v2)
  | 3 => V (Proc.devRef .tc main_v3)
  | 4 => V (Proc.devRef .tc main_v4)
  | 5 => V (Proc.devRef .tc main_v5)
  | 6 => V (Proc.devRef .tc main_v6)
  | 7 => V (Proc.devRef .tc main_v7)
/-- The embeddings' array of a valuation. -/
def embOf (V : Valuation τ sig (Elt F)) : S16384x1024.Idx → Elt F .f32 := V (Proc.devRef .tc main_v8)

variable (m : (ℓ : Loc nD τ sig) → Buf (Elt F) ℓ) (ρ : Dev nD → PrngReg)

/-- After the ids are laid out. -/
def V1 (d : Dev nD) : Valuation τ sig (Elt F) := StableHlo.after opsA (StableHlo.launchContents m d)
/-- After the gathers. -/
def V2 (d : Dev nD) : Valuation τ sig (Elt F) :=
  Function.update (V1 m d) (Proc.devRef .tc main_v8) (embG (tabsOf (V1 m d)) (catsOf (V1 m d)))
/-- After the second stage's operands are made. -/
def V3 (d : Dev nD) : Valuation τ sig (Elt F) := StableHlo.after opsB (V2 m d)
/-- At the end. -/
def V4 (d : Dev nD) : Valuation τ sig (Elt F) := mlpAfter (V3 m) d

/-! ## The gathers' operands among the TensorCore's buffers -/

def catRefs : Finset (DevRef τ sig) :=
  {Proc.devRef .tc main_v0, Proc.devRef .tc main_v1, Proc.devRef .tc main_v2, Proc.devRef .tc main_v3,
    Proc.devRef .tc main_v4, Proc.devRef .tc main_v5, Proc.devRef .tc main_v6, Proc.devRef .tc main_v7}
def tabRefs : Finset (DevRef τ sig) :=
  {Proc.devRef .tc main_arg9, Proc.devRef .tc main_arg10, Proc.devRef .tc main_arg11, Proc.devRef .tc main_arg12,
    Proc.devRef .tc main_arg13, Proc.devRef .tc main_arg14, Proc.devRef .tc main_arg15, Proc.devRef .tc main_arg16}
def embRefs : Finset (DevRef τ sig) := {Proc.devRef .tc main_v8}

theorem held_cats (d : Dev nD) (V : Valuation τ sig (Elt F)) : (held (d.tc : Thread nD τ) catRefs V : sProp 𝕄) = catsPts d fullShare (catsOf V) := by
  unfold held catRefs catsPts
  repeat rw [SparseCore.bigSep_insert' (by decide)]
  rw [bigSep_singleton]
  rfl
theorem held_tabs (d : Dev nD) (V : Valuation τ sig (Elt F)) : (held (d.tc : Thread nD τ) tabRefs V : sProp 𝕄) = tabsPts d fullShare (tabsOf V) := by
  unfold held tabRefs tabsPts
  repeat rw [SparseCore.bigSep_insert' (by decide)]
  rw [bigSep_singleton]
  rfl
theorem held_emb (d : Dev nD) (V : Valuation τ sig (Elt F)) :
    (held (d.tc : Thread nD τ) embRefs V : sProp 𝕄) = (locT d main_v8 ↦{fullShare} embOf V) := by
  unfold held embRefs
  rw [bigSep_singleton]
  rfl

theorem tab_sub : tabRefs ⊆ ucRefs τ sig \ catRefs := by decide
theorem cat_sub : catRefs ⊆ ucRefs τ sig := by decide
theorem emb_sub : embRefs ⊆ (ucRefs τ sig \ catRefs) \ tabRefs := by decide

/-- The TensorCore's buffers: the ids, the tables, the embeddings' array, and the rest. -/
theorem held_call (d : Dev nD) (V : Valuation τ sig (Elt F)) :
    (held (d.tc : Thread nD τ) (ucRefs τ sig) V : sProp 𝕄)
      = iprop(catsPts d fullShare (catsOf V) ∗ tabsPts d fullShare (tabsOf V) ∗ (locT d main_v8 ↦{fullShare} embOf V)
          ∗ held (d.tc : Thread nD τ) (((ucRefs τ sig \ catRefs) \ tabRefs) \ embRefs) V) := by
  rw [StableHlo.held_sub_split _ cat_sub V, StableHlo.held_sub_split _ tab_sub V, StableHlo.held_sub_split _ emb_sub V, held_cats, held_tabs, held_emb]

/-- Once the gathers are done only the embeddings' array has changed. -/
theorem held_called (d : Dev nD) :
    iprop(catsPts d fullShare (catsOf (V1 m d)) ∗ tabsPts d fullShare (tabsOf (V1 m d))
        ∗ (locT d main_v8 ↦{fullShare} embG (tabsOf (V1 m d)) (catsOf (V1 m d)))
        ∗ held (d.tc : Thread nD τ) (((ucRefs τ sig \ catRefs) \ tabRefs) \ embRefs) (V1 m d))
      = (held (d.tc : Thread nD τ) (ucRefs τ sig) (V2 m d) : sProp 𝕄) := by
  have hne : ∀ b : DevRef τ sig, b ∉ embRefs → V2 m d b = V1 m d b := fun b hb =>
    Function.update_of_ne (fun e => hb (by rw [e]; exact Finset.mem_singleton_self _)) ..
  have hc : (held (d.tc : Thread nD τ) catRefs (V2 m d) : sProp 𝕄) = held (d.tc : Thread nD τ) catRefs (V1 m d) :=
    StableHlo.held_congr _ fun b hb => hne b (show b ∉ embRefs from (by decide : ∀ b ∈ catRefs, b ∉ embRefs) b hb)
  have ht : (held (d.tc : Thread nD τ) tabRefs (V2 m d) : sProp 𝕄) = held (d.tc : Thread nD τ) tabRefs (V1 m d) :=
    StableHlo.held_congr _ fun b hb => hne b (show b ∉ embRefs from (by decide : ∀ b ∈ tabRefs, b ∉ embRefs) b hb)
  have he : embOf (V2 m d) = embG (tabsOf (V1 m d)) (catsOf (V1 m d)) := by unfold embOf V2; exact Function.update_self ..
  have hr : (held (d.tc : Thread nD τ) (((ucRefs τ sig \ catRefs) \ tabRefs) \ embRefs) (V2 m d) : sProp 𝕄)
      = held (d.tc : Thread nD τ) (((ucRefs τ sig \ catRefs) \ tabRefs) \ embRefs) (V1 m d) :=
    StableHlo.held_congr _ fun b hb => hne b (Finset.mem_sdiff.mp hb).2
  rw [held_call d (V2 m d), he, hr, ← held_cats d (V2 m d), ← held_tabs d (V2 m d), hc, ht, held_cats, held_tabs]

/-! ## @main -/

abbrev Tb0 (d : Dev nD) : Fin 8 → S100000x128.Idx → Elt F .f32 := tabsOf (V1 m d)
abbrev C0 (d : Dev nD) : Fin 8 → S128x128.Idx → Elt F .i32 := catsOf (V1 m d)
abbrev fo0 (d : Dev nD) : S16384x1024.Idx → Elt F .f32 := embOf (V1 m d)

theorem Otc_one (d : Dev nD) : (K (F := F)).Otc d 1 = 0 := by
  unfold SparseCore.Cfg.Otc
  exact Finset.sum_eq_zero fun q _ => if_neg (by omega)

theorem wbelow_one (d : Dev nD) (W : Waits sig (HIx 1)) (b : ℕ) (hb : 7 ≤ b) : (K (F := F)).WBelow (SparseCore.T d) W b := by
  intro p _
  match h : p.2 with
  | none => rw [SparseCore.Cfg.lev_none]; exact Nat.zero_le _
  | some q =>
    have h1 := (K (F := F)).lev_some_le ((SparseCore.T d : Thread nD τ), p.1) q
    omega

abbrev ghosts (d : Dev nD) : sProp 𝕄 :=
  iprop(Pipeline.cellsGhost (Pipeline.pin (pcfgs (F := F)) adm0) (EP (F := F)) 0 d ∗ Pipeline.toksInit (Pipeline.pin (pcfgs (F := F)) adm0) (EP (F := F)) 0 d)

abbrev FIN (d : Dev nD) : sProp 𝕄 := held (d.tc : Thread nD τ) (ucRefs τ sig) (V4 m d)

theorem arr_sub : Pipeline.arrRefs (τ := τ) spec1 ⊆ ucRefs τ sig := Pipeline.arrRefs_sub_ucRefs _ (by decide)

/-- The multilayer kernel's windows among the TensorCore's buffers. -/
theorem held_region (d : Dev nD) :
    iprop(held (d.tc : Thread nD τ) (Pipeline.arrRefs spec1) (mlpAfter (V3 m) d)
        ∗ held (d.tc : Thread nD τ) (ucRefs τ sig \ Pipeline.arrRefs spec1) (V3 m d)) = (FIN m d : sProp 𝕄) := by
  unfold FIN V4
  rw [StableHlo.held_sub_split _ arr_sub (mlpAfter (V3 m) d),
    StableHlo.held_congr (S := ucRefs τ sig \ Pipeline.arrRefs spec1) _ (fun b hb => mlpAfter_of_ne (V3 m) d b (fun e => (Finset.mem_sdiff.mp hb).2 (by rw [e]; decide)))]

theorem phinj0 : Function.Injective (Pipeline.cellOf (nD := nD) (τ := τ) (Pipeline.pin (pcfgs (F := F)) adm0)) := kit1.cellOf_inj adm0

/-- The call of the multilayer kernel, under the pipelines' own table. -/
abbrev inner0 : Prog (TpuEff nD τ sig (Elt F) (Pipeline.Sig Λ₀ (Fin 1) fun p => (pcfgs (F := F) p).Adm) .tc) PUnit :=
  .op (.customCall (Pipeline.entry 0) ()) fun _ => .ret ⟨⟩

theorem inner0_eq : (SparseCore.liftProg (Q := 1) (inner0 (F := F)) : Prog (TpuEff nD τ sig (Elt F) _ .tc) PUnit)
    = (Prog.lift (.customCall (SparseCore.inner (Pipeline.entry 0)) ()) >>= fun _ => pure ⟨⟩) := rfl

theorem region_inner [∀ e, Nonempty (Elt F e)] (d : Dev nD) (Q : PUnit → sProp 𝕄) :
    iprop((iprop(boundary (d.tc : Thread nD τ) ∗ (mlpReg (V3 m)).post d) -∗ Q ⟨⟩)
        ∗ boundary (d.tc : Thread nD τ) ∗ (mlpReg (V3 m)).pre d ∗ levAts (K (F := F)).L (K (F := F)).lev ∗ ghosts d)
      ⊢ wp frame (wpE (D (F := F)) 𝒱 (d.tc : Thread nD τ) none) Set.univ (inner0 (F := F)) Q := by
  refine BI.Entails.trans ?_ (Pipeline.RegionSeg.wp (pcfgs (F := F)) adm0 (mlpDats (V3 m)) none phinj0 (EP (F := F)) defs₀ 𝒱₀
    (K (F := F)).L (K (F := F)).lev (mlpReg (V3 m)) d none (fun _ h => nomatch h) (fun _ => .ret (⟨⟩ : PUnit)) Q)
  have hret : Q ⟨⟩ ⊢ wp frame (wpE (D (F := F)) 𝒱 (d.tc : Thread nD τ) none) Set.univ (.ret (⟨⟩ : PUnit)) Q := by
    iintro H
    rw [wp_ret]
    imodintro
    iexact H
  exact sep_mono_left (wand_mono_right hret)

theorem region [∀ e, Nonempty (Elt F e)] (d : Dev nD) (Q : PUnit → sProp 𝕄) :
    iprop((iprop(boundary (d.tc : Thread nD τ) ∗ (mlpReg (V3 m)).post d) -∗ Q ⟨⟩)
        ∗ boundary (d.tc : Thread nD τ) ∗ (mlpReg (V3 m)).pre d ∗ levAts (K (F := F)).L (K (F := F)).lev ∗ ghosts d)
      ⊢ wp frame (wpE ((K (F := F)).defs (D (F := F))) 𝒱 (SparseCore.T d) none) Set.univ
          (Prog.lift (.customCall (SparseCore.inner (Pipeline.entry 0)) ()) >>= fun _ => pure ⟨⟩) Q := by
  rw [← inner0_eq]
  exact (region_inner m d Q).trans ((K (F := F)).wp_liftProg (D (F := F)) 𝒱 (d.tc : Thread nD τ) Set.univ none (inner0 (F := F)) Q)

/-- What the TensorCore holds of the handshakes once the call is over, past what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem owes_below (d : Dev nD) (b : ℕ) (hb : 7 ≤ b) :
    (iprop(∃ W, ⌜(K (F := F)).WBelow (SparseCore.T d) W b⌝ ∗ owes (SparseCore.T d) 0 W) : sProp 𝕄) = iprop(∃ W, owes (d.tc : Thread nD τ) 0 W) := by
  have h1 : (iprop(∃ W, ⌜(K (F := F)).WBelow (SparseCore.T d) W b⌝ ∗ owes (SparseCore.T d) 0 W) : sProp 𝕄) ⊢ iprop(∃ W, owes (d.tc : Thread nD τ) 0 W) := by
    iintro ⟨%W, -, HO⟩
    iexists W; iexact HO
  have h2 : (iprop(∃ W, owes (d.tc : Thread nD τ) 0 W) : sProp 𝕄) ⊢ iprop(∃ W, ⌜(K (F := F)).WBelow (SparseCore.T d) W b⌝ ∗ owes (SparseCore.T d) 0 W) := by
    iintro ⟨%W, HO⟩
    iexists W
    isplitr
    · ipureintro; exact wbelow_one d W _ hb
    iexact HO
  exact Entails.antisymm h1 h2

/-- It owes nothing then, whatever is recorded of its waits. -/
theorem tcSt_one (d : Dev nD) :
    ((K (F := F)).tcSt EH d 1 : sProp 𝕄) = iprop((∃ W, owes (d.tc : Thread nD τ) 0 W) ∗ tcRest d) := by
  unfold SparseCore.Cfg.tcSt tcRest
  rw [Otc_one]
  rw [owes_below d _ (by decide)]
  rfl

/-- @main on device `d`'s TensorCore. -/
theorem hmain [∀ e, Nonempty (Elt F e)] (κ : GSem nD τ sig → ℕ) (d : Dev nD) :
    iprop((K (F := F)).ctx EH (P (Tb0 m) (C0 m) (fo0 m)) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hseqA := fun k => StableHlo.wp_seq (defs := (K (F := F)).defs (D (F := F))) (Ix := HIx 1) (Name := ℕ) (U := UU) (Lvl := ℕ) 𝒱 none Set.univ d (ucRefs τ sig) (β := PUnit) k (opsA (F := F)) opsA_bufs opsA_fresh (StableHlo.launchContents m d)
    (K := fun _ => iprop((K (F := F)).tcSt EH d 1 ∗ FIN m d ∗ (K (F := F)).tcEnd d))
  have hseqB := fun k => StableHlo.wp_seq (defs := (K (F := F)).defs (D (F := F))) (Ix := HIx 1) (Name := ℕ) (U := UU) (Lvl := ℕ) 𝒱 none Set.univ d (ucRefs τ sig) (β := PUnit) k (opsB (F := F)) opsB_bufs opsB_fresh (V2 m d)
    (K := fun _ => iprop((K (F := F)).tcSt EH d 1 ∗ FIN m d ∗ (K (F := F)).tcEnd d))
  have hreg := region m d fun _ => iprop((K (F := F)).tcSt EH d 1 ∗ FIN m d ∗ (K (F := F)).tcEnd d)
  have hpre : (mlpReg (V3 m)).pre d = iprop(held (d.tc : Thread nD τ) (Pipeline.arrRefs spec1) (V3 m d) ∗ BI.emp ∗ BI.emp ∗ ∃ W, owes (d.tc : Thread nD τ) 0 W) := rfl
  have hpost : (mlpReg (V3 m)).post d = iprop(held (d.tc : Thread nD τ) (Pipeline.arrRefs spec1) (mlpAfter (V3 m) d) ∗ BI.emp ∗ BI.emp ∗ ∃ W, owes (d.tc : Thread nD τ) 0 W) := rfl
  rw [main_parts]
  unfold SparseCore.Cfg.tcRes SparseCore.Cfg.tcEnd
  rw [hpre, hpost] at hreg
  iintro ⟨#Hctx, Hst, ⟨Hb, Hbufs, Hts, -⟩, Hg⟩
  ihave Hheld := (Entails.of_eq (Pipeline.unscopedBufs_held d (StableHlo.launchContents m d))) $$ Hbufs
  iapply (hseqA _) $$ [Hb Hheld]
  · isplitl [Hb]; · iexact Hb
    iexact Hheld
  iintro ⟨Hb, Hheld⟩
  ihave Hheld := (Entails.of_eq (show (held (d.tc : Thread nD τ) (ucRefs τ sig) (StableHlo.after opsA (StableHlo.launchContents m d)) : sProp 𝕄) = _ from held_call d (V1 m d))) $$ Hheld
  icases Hheld with ⟨Hc, Ht, He, Hrest⟩
  rw [wp_bind]
  iapply ((K (F := F)).wp_run (D (F := F)) 𝒱 (EH := EH) (P := P (Tb0 m) (C0 m) (fo0 m)) κ d 0) $$ [Hst Hb Hts Hg Hc Ht He Hrest]
  isplitr; · iexact Hctx
  isplitl [Hst]; · iexact Hst
  isplitl [Hc Ht He]
  · rw [st_eq]
    isplitl [Hc]; · iexact Hc
    isplitl [Ht]; · iexact Ht
    iexact He
  iintro ⟨Hst, Hdn⟩
  ihave Hdn := (Entails.of_eq (dn_eq (Tb0 m) (C0 m) (fo0 m) d)) $$ Hdn
  icases Hdn with ⟨Hc, Ht, He⟩
  ihave Hheld := (Entails.of_eq (held_called m d)) $$ [Hc Ht He Hrest]
  · isplitl [Hc]; · iexact Hc
    isplitl [Ht]; · iexact Ht
    isplitl [He]; · iexact He
    iexact Hrest
  iapply (hseqB _) $$ [Hb Hheld]
  · isplitl [Hb]; · iexact Hb
    iexact Hheld
  iintro ⟨Hb, Hheld⟩
  ihave Hheld := (Entails.of_eq (show (held (d.tc : Thread nD τ) (ucRefs τ sig) (StableHlo.after opsB (V2 m d)) : sProp 𝕄) = _ from StableHlo.held_sub_split (d.tc : Thread nD τ) arr_sub (V3 m d))) $$ Hheld
  icases Hheld with ⟨Harr, Hrest⟩
  ihave Hst := (Entails.of_eq (show ((K (F := F)).tcSt EH d ((0 : Fin 1).val + 1) : sProp 𝕄) = _ from tcSt_one d)) $$ Hst
  icases Hst with ⟨HO, Hst⟩
  iapply hreg
  isplitl [Hst Hrest Hts]
  · iintro ⟨Hb, Harr, -, -, HO⟩
    isplitl [Hst HO]
    · iapply (Entails.of_eq (tcSt_one d).symm)
      isplitl [HO]; · iexact HO
      iexact Hst
    isplitl [Harr Hrest]
    · iapply (Entails.of_eq (held_region m d))
      isplitl [Harr]; · iexact Harr
      iexact Hrest
    iapply (Entails.of_eq (show (iprop(boundary (SparseCore.T d) ∗ (K (F := F)).tcSems0 d) : sProp 𝕄) = (K (F := F)).tcEnd d from rfl))
    isplitl [Hb]; · iexact Hb
    iexact Hts
  isplitl [Hb]; · iexact Hb
  isplitl [Harr HO]
  · isplitl [Harr]; · iexact Harr
    isplitr; · iempintro
    isplitr; · iempintro
    iexact HO
  isplitr
  · iapply ((K (F := F)).ctx_levAts κ)
    iexact Hctx
  iexact Hg

/-! ## The launch's ghost state, the final contents, the run -/

abbrev cells0 := Pipeline.cells (Pipeline.pin (pcfgs (F := F)) adm0) phinj0
abbrev toks0 := Pipeline.launchToks (Pipeline.pin (pcfgs (F := F)) adm0) phinj0

/-- The handshakes' cells and the pipeline's, at the start. -/
def u₀ : UU := (initOf (K (F := F)).hsCells (K (F := F)).hsToks, (initOf (cells0 (F := F)) (toks0 (F := F)), 1))

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (Tb0 m) (C0 m) (fo0 m)).x q thr) := by
  have hg := Pipeline.fund_ghost (Pipeline.pin (pcfgs (F := F)) adm0) (EP (F := F)) phinj0 (Ix := HIx 1) (Name := ℕ) (U := UU) (Lvl := ℕ)
  have hgh : iprop((bigSep Finset.univ fun c : Dev nD => bigSep Finset.univ fun p => Pipeline.cellsGhost (Pipeline.pin (pcfgs (F := F)) adm0) (EP (F := F)) p c)
      ∗ (bigSep Finset.univ fun c : Dev nD => bigSep Finset.univ fun p => (Pipeline.toksInit (Pipeline.pin (pcfgs (F := F)) adm0) (EP (F := F)) p c : sProp 𝕄)))
      = (bigSep Finset.univ fun d : Dev nD => ghosts d) := by
    rw [← bigSep_sep']
    exact bigSep_congr fun c _ => by rw [bigSep_univ_of_subsingleton (0 : Fin 1), bigSep_univ_of_subsingleton (0 : Fin 1)]
  have hx : (bigSep Finset.univ fun thr : Thread nD τ => bigSep Finset.univ fun q : Fin 1 => (P (Tb0 m) (C0 m) (fo0 m)).x q thr) = (iprop(emp) : sProp 𝕄) :=
    (bigSep_congr fun _ _ => bigSep_univ_of_subsingleton (0 : Fin 1)).trans (bigSep_emp_const _)
  unfold u₀
  iintro Hu
  ihave H := (ownU_pair (initOf (K (F := F)).hsCells (K (F := F)).hsToks) (initOf (cells0 (F := F)) (toks0 (F := F)), (1 : Counters))) $$ Hu
  icases H with ⟨HH, HR⟩
  ihave HP := (own_pair_emb (ER (F := F)) (initOf (cells0 (F := F)) (toks0 (F := F))) (1 : Counters)) $$ HR
  icases HP with ⟨HP, -⟩
  imod hg $$ HP with HG
  ihave HG := (Entails.of_eq hgh) $$ HG
  imodintro
  isplitl [HH]; · iexact HH
  isplitl [HG]; · iexact HG
  rw [hx]
  iempintro

def fq (d : Dev nD) (s' : Phys nD τ sig (Elt F)) : Prop := ∀ b ∈ ucRefs τ sig, s'.mem.mem (d, b) = V4 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- Every buffer no call scopes at its final contents, every semaphore at zero. -/
def QC : PUnit × MemSt nD τ sig (Elt F) → Prop := fun r =>
  (∀ d : Dev nD, ∀ b ∈ ucRefs τ sig, r.2.mem (d, b) = V4 m d b) ∧ r.2.sem = fun _ => 0

/-- The program runs, whatever the float values are, from any memory whose ids name rows of the tables. -/
theorem run_main [∀ e, Nonempty (Elt F e)] (hlt : ∀ d f x, (C0 m d f x).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Tb0 m) (C0 m) (fo0 m)) (A := ∅) facts v₀
    (fun q hq => match q with | 0 => nomatch hq)
    (fun q _ => match q with | 0 => tileObl (Tb0 m) (C0 m) (fo0 m) facts hlt)
    (fun q _ => match q with | 0 => SparseCore.Cfg.VecSplit.of_plain (vecSplit (Tb0 m) (C0 m) (fo0 m)))
    m ρ main ghosts (FIN m) (u₀ (F := F)) (sep_elim_left.trans (hu₀ m)) (hmain m ρ) (fq m) (hfin m) (QC m) (fun _ h hz => ⟨h, hz⟩)

end Cert.Proof

end
-- ==== Proof.Pre.lean ====
/-
  What the precondition says of the eight features' ids: each is a row number of its table.
-/
module

public import proofs.«01_k».proof.Defs
public import proofs.«01_k».proof.Proof.Gen.Pre_ids_in_range
public import Idealize.ShloMosaic.Lib.ReduceAll

@[expose] public section

noncomputable section

namespace Cert.Proof

open Cert.Pre_ids_in_range Cert.Pre_ids_in_range.Gen
open Idealize.ShloMosaic

variable {F : FTy → Type} [FloatOps F]

/-- A word that tests not below 0 and below 100000 as a signed number is below 100000. -/
theorem toNat_lt_of_tests (v : BitVec 32) (e : IntOp.andi (IntOp.cmpi .sge v 0#32) (IntOp.cmpi .slt v 100000#32) = 1#1) :
    v.toNat < 100000 := by
  obtain ⟨h0, h1⟩ := IntOp.andi_eq_one.1 e
  have h0 := IntOp.cmpi_sge.1 h0
  have h1 := IntOp.cmpi_slt.1 h1
  simp only [BitVec.toInt_eq_toNat_cond, BitVec.toNat_ofNat, Nat.reducePow, Nat.reduceMod] at h0 h1
  omega

/-- Eight arrays of ids, all of whose words are below 100000. -/
def IdsOk (x : Fin 8 → IVec S16384 32) : Prop := ∀ f j, (x f j).toNat < 100000

/-- The precondition's array is all ones only if all the ids are in range. -/
theorem idsOk_of_fn (x : Fin 8 → IVec S16384 32) (p : FVec F S16384 .f32) (t : Fin 8 → FVec F S100000x128 .f32)
    (w1 : FVec F S1025x1024 .f32) (b1 : FVec F S1024 .f32) (w2 : FVec F S1024x1024 .f32) (b2 : FVec F S1024 .f32)
    (h : fn (F := F) (x 0) (x 1) (x 2) (x 3) (x 4) (x 5) (x 6) (x 7) p (t 0) (t 1) (t 2) (t 3) (t 4) (t 5) (t 6) (t 7) w1 b1 w2 b2
      = fun _ => 1#1) : IdsOk x := by
  intro f j
  have e := congrFun h j
  simp only [fn, fn_part1, fn_part2, andi, cmpi, broadcastInDim, constantI] at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  refine toNat_lt_of_tests _ ?_
  match f with
  | 0 => exact h0
  | 1 => exact h1
  | 2 => exact h2
  | 3 => exact h3
  | 4 => exact h4
  | 5 => exact h5
  | 6 => exact h6
  | 7 => exact h7

end Cert.Proof

end
-- ==== Proof.Frames.lean ====
/-
  The frames: the ids in range, the run of the whole program leaves its arguments as they were.
-/
module

public import proofs.«01_k».proof.Defs
public import proofs.«01_k».proof.Proof.Main
public import proofs.«01_k».proof.Proof.Pre
public import proofs.«01_k».proof.Proof.Gen.Kernel

@[expose] public section

noncomputable section

namespace Cert.Proof

open Cert.KernelIdeal Cert.KernelIdeal.Gen

open Idealize.ShloMosaic Idealize.SL.Sem

variable {F : FTy → Type} [FloatOps F]
variable (m : (ℓ : Loc nD τ sig) → Buf (Elt F) ℓ) (ρ : Dev nD → PrngReg)

/-! ## The ids -/

/-- The eight features' ids, as they arrive. -/
def idsOf (d : Dev nD) : Fin 8 → IVec S16384 32
  | 0 => m ((d.tc : Thread nD τ).loc main_arg0)
  | 1 => m ((d.tc : Thread nD τ).loc main_arg1)
  | 2 => m ((d.tc : Thread nD τ).loc main_arg2)
  | 3 => m ((d.tc : Thread nD τ).loc main_arg3)
  | 4 => m ((d.tc : Thread nD τ).loc main_arg4)
  | 5 => m ((d.tc : Thread nD τ).loc main_arg5)
  | 6 => m ((d.tc : Thread nD τ).loc main_arg6)
  | 7 => m ((d.tc : Thread nD τ).loc main_arg7)

/-- The eight tables, as they arrive. -/
def tablesOf (d : Dev nD) : Fin 8 → FVec F S100000x128 .f32
  | 0 => m ((d.tc : Thread nD τ).loc main_arg9)
  | 1 => m ((d.tc : Thread nD τ).loc main_arg10)
  | 2 => m ((d.tc : Thread nD τ).loc main_arg11)
  | 3 => m ((d.tc : Thread nD τ).loc main_arg12)
  | 4 => m ((d.tc : Thread nD τ).loc main_arg13)
  | 5 => m ((d.tc : Thread nD τ).loc main_arg14)
  | 6 => m ((d.tc : Thread nD τ).loc main_arg15)
  | 7 => m ((d.tc : Thread nD τ).loc main_arg16)

/-- A feature's ids laid out in rows of 128 are its ids in order. -/
theorem C0_eq (d : Dev nD) (f : Fin 8) : C0 m d f = shapeCast S128x128 (idsOf m d f) shapeCasts_S16384_S128x128 := by
  unfold C0 V1
  unfold opsA
  fin_cases f <;> (dsimp only [catsOf, idsOf]; after_results; rfl)

theorem C0_lt (d : Dev nD) (h : IdsOk (idsOf m d)) (f : Fin 8) (x : S128x128.Idx) : (C0 m d f x).toNat < 100000 := by
  rw [C0_eq]
  exact h f _

/-! ## The arguments -/

/-- The buffers the first line of operations writes, and those the second does. -/
def writtenA : List (Ref sig .tc) := [main_v0, main_v1, main_v2, main_v3, main_v4, main_v5, main_v6, main_v7]
def writtenB : List (Ref sig .tc) := [main_v9, main_v10, main_v11, main_v12, main_v13, main_v14, main_v15]

theorem V1_unwritten (d : Dev nD) {r : Ref sig .tc} (h : r ∉ writtenA) :
    V1 m d (Proc.devRef .tc r) = m ((d.tc : Thread nD τ).loc r) :=
  StableHlo.after_of_writes_sub (W := writtenA) opsA _ (StableHlo.forall_writes_sub_of_map rfl) h

theorem V2_unwritten (d : Dev nD) {r : Ref sig .tc} (h : r ∉ writtenA) (h' : r ≠ main_v8) :
    V2 m d (Proc.devRef .tc r) = m ((d.tc : Thread nD τ).loc r) := by
  unfold V2
  rw [Function.update_of_ne (fun e => h' (Proc.devRef_injective _ e)), V1_unwritten m d h]

theorem V3_unwritten (d : Dev nD) {r : Ref sig .tc} (h : r ∉ writtenB) :
    V3 m d (Proc.devRef .tc r) = V2 m d (Proc.devRef .tc r) :=
  StableHlo.after_of_writes_sub (W := writtenB) opsB _ (StableHlo.forall_writes_sub_of_map rfl) h

/-- The arguments. -/
def argRefs : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20]

theorem args_apart : ∀ r ∈ argRefs, r ∉ writtenA ∧ r ∉ writtenB ∧ r ≠ main_v8 ∧ r ≠ main_v16
    ∧ Proc.devRef .tc r ∈ Pipeline.ucRefs τ sig := by decide

theorem V4_arg (d : Dev nD) {r : Ref sig .tc} (h : r ∈ argRefs) : V4 m d (Proc.devRef .tc r) = m ((d.tc : Thread nD τ).loc r) := by
  obtain ⟨hA, hB, h8, h16, _⟩ := args_apart r h
  unfold V4
  rw [mlpAfter_of_ne _ _ _ (fun e => h16 (Proc.devRef_injective _ e)), V3_unwritten m d hB, V2_unwritten m d hA h8]

/-- What the run leaves at an argument. -/
theorem args_of_QC {r : PUnit × MemSt nD τ sig (Elt F)} (h : QC m r) (d : Dev nD) (a : Ref sig .tc) (ha : a ∈ argRefs) :
    r.2.mem ((d.tc : Thread nD τ).loc a) = m ((d.tc : Thread nD τ).loc a) :=
  (h.1 d _ (args_apart a ha).2.2.2.2).trans (V4_arg m d ha)

/-- What a run under the precondition leaves: all buffers at the contents written down, every counter at zero. -/
theorem run_ids [∀ e, Nonempty (Elt F e)] (h : ∀ d, IdsOk (idsOf m d)) :
    θ_run (Cert.KernelIdeal.defs (F := F)) (Cert.KernelIdeal.threads (F := F)) ⟨m, fun _ => 0, ρ⟩ (QC m) :=
  run_main m ρ fun d f x => C0_lt m d (h d) f x

/-- The precondition over `F`'s numbers: the ids are in range. -/
theorem ids_of_pre (d : Dev nD)
    (h : Cert.Pre_ids_in_range.fn (F := F) (idsOf m d 0) (idsOf m d 1) (idsOf m d 2) (idsOf m d 3) (idsOf m d 4) (idsOf m d 5)
      (idsOf m d 6) (idsOf m d 7) (m ((d.tc : Thread nD τ).loc main_arg8)) (tablesOf m d 0) (tablesOf m d 1) (tablesOf m d 2)
      (tablesOf m d 3) (tablesOf m d 4) (tablesOf m d 5) (tablesOf m d 6) (tablesOf m d 7) (m ((d.tc : Thread nD τ).loc main_arg17))
      (m ((d.tc : Thread nD τ).loc main_arg18)) (m ((d.tc : Thread nD τ).loc main_arg19)) (m ((d.tc : Thread nD τ).loc main_arg20))
      = fun _ => 1#1) : IdsOk (idsOf m d) :=
  idsOk_of_fn (F := F) (idsOf m d) _ (tablesOf m d) _ _ _ _ h

/-- The arguments unchanged, one after another. -/
theorem args_chain {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  refine ⟨?_, ?_, ?_, ?_, ?_, ?_, ?_, ?_, ?_, ?_, ?_, ?_, ?_, ?_, ?_, ?_, ?_, ?_, ?_, ?_, ?_⟩ <;>
    exact args_of_QC m h c _ (by decide)

/-- The kernel's table of bodies is the same text in both modules. -/
theorem defs₀_eq : Cert.Kernel.defs₀ (F := Bits) = Cert.KernelIdeal.defs₀ (F := Bits) := by
  funext p l a
  match p, l, a with
  | .scVector _ _, 0, _ => rfl
  | .scVector _ _, 1, _ => rfl
  | .scScalar _, 0, _ => rfl
  | .scScalar _, 1, _ => rfl
  | .tc, 0, _ => rfl
  | .tc, 1, (_, _) => rfl

theorem defs_eq : Cert.Kernel.defs (F := Bits) = Cert.KernelIdeal.defs (F := Bits) :=
  congrArg (fun D => sc.defs (Pipeline.defs pcfgs D)) defs₀_eq

/-- The frame over the kernel's own numbers. -/
theorem frame_kernel : Cert.quiescent_Kernel := fun m ρ hpre => by
  rw [defs_eq]
  exact (θ_run (Cert.KernelIdeal.defs (F := Bits)) _ _).mono (fun _ h => ⟨fun c => args_chain m h c, h.2⟩)
    (run_ids (F := Bits) m ρ fun d => ids_of_pre m d (hpre d))

/-- The frame over the ideal numbers. -/
theorem frame_kernelIdeal : Cert.quiescent_KernelIdeal := fun m ρ hpre =>
  (θ_run (Cert.KernelIdeal.defs (F := Ideal)) _ _).mono (fun _ h => ⟨fun c => args_chain m h c, h.2⟩)
    (run_ids (F := Ideal) m ρ fun d => ids_of_pre m d (hpre d))

end Cert.Proof

end
-- ==== Proof.Spec.lean ====
/-
  The result both programs are compared with, one element of it: a row of embeddings and a price through two layers, over the
  extended reals.
-/
module

public import proofs.«01_k».proof.Proof.Pre
public import Idealize.ShloMosaic.Lib.ValueIdxCore

@[expose] public section

noncomputable section

namespace Cert.Proof

open Cert.Pre_ids_in_range
open Idealize.ShloMosaic
open scoped BigOperators

/-- A place in a matrix is its row and its column; a place in a vector is its one coordinate. -/
theorem idx2_eq {a b : Nat} (y : (⟨2, ![a, b]⟩ : Shape).Idx) (i : Fin a) (j : Fin b) (h0 : (y 0).val = i.val) (h1 : (y 1).val = j.val) :
    y = ValueIdx.ix2 i j := by
  funext c
  match c with
  | ⟨0, _⟩ => exact Fin.ext h0
  | ⟨1, _⟩ => exact Fin.ext h1
theorem idx1_eq {a : Nat} (y : (⟨1, ![a]⟩ : Shape).Idx) (i : Fin a) (h0 : (y 0).val = i.val) : y = ValueIdx.ix1 i := by
  funext c
  match c with
  | ⟨0, _⟩ => exact Fin.ext h0

/-- One unit of the first layer: the embeddings' part, the price's part, the bias, cut off below at zero. -/
def hidden (e : Fin 1024 → EReal) (p : EReal) (w : Fin 1024 → Fin 1024 → EReal) (wp b : Fin 1024 → EReal) (k : Fin 1024) : EReal :=
  max ((∑ c, e c * w c k) + p * wp k + b k) 0

/-- One unit of the second layer. -/
def score (e : Fin 1024 → EReal) (p : EReal) (w : Fin 1024 → Fin 1024 → EReal) (wp b : Fin 1024 → EReal)
    (w2 : Fin 1024 → Fin 1024 → EReal) (b2 : Fin 1024 → EReal) (j : Fin 1024) : EReal :=
  max ((∑ k, hidden e p w wp b k * w2 k j) + b2 j) 0

/-- The feature a column of the embeddings belongs to, and its place in the feature's row. -/
def featOf (c : Fin 1024) : Fin 8 := ⟨c.val / 128, by omega⟩
def laneOf (c : Fin 1024) : Fin 128 := ⟨c.val % 128, by omega⟩

/-- A word as a row of a table. -/
def tableRow (v : BitVec 32) : Fin 100000 := ⟨v.toNat % 100000, Nat.mod_lt _ (by decide)⟩

/-- The embeddings of one example: each feature's table at the feature's id. -/
def embRow (x : Fin 8 → IVec S16384 32) (t : Fin 8 → FVec Ideal S100000x128 .f32) (i : Fin 16384) (c : Fin 1024) : EReal :=
  t (featOf c) (ValueIdx.ix2 (tableRow (x (featOf c) (ValueIdx.ix1 i))) (laneOf c))

/-- The whole result. -/
def scores (x : Fin 8 → IVec S16384 32) (p : FVec Ideal S16384 .f32) (t : Fin 8 → FVec Ideal S100000x128 .f32)
    (w1 : FVec Ideal S1025x1024 .f32) (b1 : FVec Ideal S1024 .f32) (w2 : FVec Ideal S1024x1024 .f32) (b2 : FVec Ideal S1024 .f32)
    (i : Fin 16384) (j : Fin 1024) : EReal :=
  score (embRow x t i) (p (ValueIdx.ix1 i)) (fun c k => w1 (ValueIdx.ix2 c.castSucc k)) (fun k => w1 (ValueIdx.ix2 (Fin.last 1024) k))
    (fun k => b1 (ValueIdx.ix1 k)) (fun k j => w2 (ValueIdx.ix2 k j)) (fun j => b2 (ValueIdx.ix1 j)) j

end Cert.Proof

end
-- ==== Proof.Equation.lean ====
/-
  The kernel's result over the extended reals: the second stage's body is the network of Spec.lean on its block's rows, its
  blocks are the operands' rows, and its operands are what the first stage gathered and the arguments.
-/
module

public import proofs.«01_k».proof.Proof.Frames
public import proofs.«01_k».proof.Proof.Spec
public import Idealize.ShloMosaic.Lib.MatmulPlain
public import Idealize.ShloMosaic.Lib.Pipeline.Value

@[expose] public section

noncomputable section

namespace Cert.Proof

open Cert.KernelIdeal Cert.KernelIdeal.Gen

open Idealize.ShloMosaic

variable {F : FTy → Type} [FloatOps F]

/-! ## The body's payload -/

/-- A one-row matrix spread over 512 rows, and a column over 1024 columns. -/
theorem row_spread (v : FVec F S1x1024 .f32) (r : Fin 512) (k : Fin 1024) :
    broadcastTo S512x1024 v broadcasts_S1x1024_S512x1024 (ValueIdx.ix2 r k) = v (ValueIdx.ix2 0 k) :=
  broadcastTo_apply v _ _ _ fun a => match a with
    | ⟨0, _⟩ => rfl
    | ⟨1, _⟩ => rfl
theorem column_spread (v : FVec F S512x1 .f32) (r : Fin 512) (k : Fin 1024) :
    broadcastTo S512x1024 v broadcasts_S512x1_S512x1024 (ValueIdx.ix2 r k) = v (ValueIdx.ix2 r 0) :=
  broadcastTo_apply v _ _ _ fun a => match a with
    | ⟨0, _⟩ => rfl
    | ⟨1, _⟩ => rfl

/-- A product from zero. -/
theorem product (l : FVec Ideal S512x1024 .bf16) (w : FVec Ideal S1024x1024 .bf16) (r : Fin 512) (k : Fin 1024) :
    matmul dot_S512x1024_S1024x1024_S512x1024_1_0_0_1_n_n none l w (constant (F := Ideal) S512x1024 .f32 0x00000000#32) (ValueIdx.ix2 r k)
      = ∑ c : Fin 1024, l (ValueIdx.ix2 r c) * w (ValueIdx.ix2 c k) := by
  refine (Ideal.matmul_plain_apply none l w _ r k).trans ?_
  refine (congrArg (· + _) Ideal.ofBits_zero_f32).trans ?_
  exact zero_add _

/-- A row of what the body stores is the network on that row of its block. -/
theorem payload_apply (e : FVec Ideal S512x1024 .f32) (w : FVec Ideal S1024x1024 .bf16) (p : FVec Ideal S512x1 .f32)
    (wp b : FVec Ideal S1x1024 .f32) (w2 : FVec Ideal S1024x1024 .bf16) (b2 : FVec Ideal S1x1024 .f32) (r : Fin 512) (j : Fin 1024) :
    k1_pay1 (F := Ideal) e w p wp b w2 b2 (ValueIdx.ix2 r j)
      = score (fun c => e (ValueIdx.ix2 r c)) (p (ValueIdx.ix2 r 0)) (fun c k => w (ValueIdx.ix2 c k)) (fun k => wp (ValueIdx.ix2 0 k))
          (fun k => b (ValueIdx.ix2 0 k)) (fun k j => w2 (ValueIdx.ix2 k j)) (fun j => b2 (ValueIdx.ix2 0 j)) j := by
  unfold k1_pay1 score hidden
  simp only [shapeCast_self]
  refine congr (congrArg max ?_) Ideal.ofBits_zero_f32
  refine congr (congrArg HAdd.hAdd ?_) (row_spread b2 r j)
  refine (product _ w2 r j).trans (Finset.sum_congr rfl fun k _ => congrArg (· * _) ?_)
  refine congr (congrArg max ?_) Ideal.ofBits_zero_f32
  refine congr (congrArg HAdd.hAdd ?_) (row_spread b r k)
  exact congr (congrArg HAdd.hAdd (product _ w r k)) (congr (congrArg HMul.hMul (column_spread p r k)) (row_spread wp r k))

/-! ## The blocks -/

variable (V : Dev nD → Valuation τ sig (Elt F)) (c : Dev nD)

theorem blocks_at : ∀ t : Fin grid1.N, (win1_0.index t 0 = t.val ∧ win1_0.index t 1 = 0) ∧ (win1_1.index t 0 = t.val ∧ win1_1.index t 1 = 0)
    ∧ (∀ a, win1_2.index t a = 0) ∧ (∀ a, win1_3.index t a = 0) ∧ (∀ a, win1_4.index t a = 0) ∧ (∀ a, win1_5.index t a = 0)
    ∧ (∀ a, win1_6.index t a = 0) := by decide +kernel

theorem emb_block (t : Fin cfg1.N) (r : Fin 512) (k : Fin 1024) (i : Fin 16384) (hi : i.val = t.val * 512 + r.val) :
    blkOf V c 0 t (ValueIdx.ix2 r k) = embOf (V c) (ValueIdx.ix2 i k) := by
  obtain ⟨⟨h0, h1⟩, -⟩ := blocks_at t
  show embOf (V c) ((win1_0.rect t).emb (ValueIdx.ix2 r k)) = _
  refine congrArg (embOf (V c)) (idx2_eq _ _ _ ?_ ?_)
  · exact (win1_0.rect_emb_val t _ 0).trans (by rw [h0, hi]; rfl)
  · exact (win1_0.rect_emb_val t _ 1).trans (by rw [h1]; exact Nat.zero_add _)

/-- The prices' array of a valuation, and the weights' and biases'. -/
def priceOf (V : Valuation τ sig (Elt F)) : FVec F S16384x1 .f32 := V (Proc.devRef .tc main_v12)
def w1Of (V : Valuation τ sig (Elt F)) : FVec F S1024x1024 .bf16 := V (Proc.devRef .tc main_v10)
def wpOf (V : Valuation τ sig (Elt F)) : FVec F S1x1024 .f32 := V (Proc.devRef .tc main_v11)
def b1Of (V : Valuation τ sig (Elt F)) : FVec F S1x1024 .f32 := V (Proc.devRef .tc main_v13)
def w2Of (V : Valuation τ sig (Elt F)) : FVec F S1024x1024 .bf16 := V (Proc.devRef .tc main_v14)
def b2Of (V : Valuation τ sig (Elt F)) : FVec F S1x1024 .f32 := V (Proc.devRef .tc main_v15)

theorem price_block (t : Fin cfg1.N) (r : Fin 512) (i : Fin 16384) (hi : i.val = t.val * 512 + r.val) :
    blkOf V c 1 t (ValueIdx.ix2 r 0) = priceOf (V c) (ValueIdx.ix2 i 0) := by
  obtain ⟨-, ⟨h0, h1⟩, -⟩ := blocks_at t
  show priceOf (V c) ((win1_1.rect t).emb (ValueIdx.ix2 r 0)) = _
  refine congrArg (priceOf (V c)) (idx2_eq _ _ _ ?_ ?_)
  · exact (win1_1.rect_emb_val t _ 0).trans (by rw [h0, hi]; rfl)
  · exact (win1_1.rect_emb_val t _ 1).trans (by rw [h1]; exact Nat.zero_add _)

/-- The other windows fetch their arrays whole. -/
theorem whole_blocks (t : Fin cfg1.N) : blkOf V c 2 t = w1Of (V c) ∧ blkOf V c 3 t = wpOf (V c) ∧ blkOf V c 4 t = b1Of (V c)
    ∧ blkOf V c 5 t = w2Of (V c) ∧ blkOf V c 6 t = b2Of (V c) := by
  obtain ⟨-, -, h2, h3, h4, h5, h6⟩ := blocks_at t
  refine ⟨funext fun y => congrArg (w1Of (V c)) (funext fun a => Fin.ext ?_), funext fun y => congrArg (wpOf (V c)) (funext fun a => Fin.ext ?_),
    funext fun y => congrArg (b1Of (V c)) (funext fun a => Fin.ext ?_), funext fun y => congrArg (w2Of (V c)) (funext fun a => Fin.ext ?_),
    funext fun y => congrArg (b2Of (V c)) (funext fun a => Fin.ext ?_)⟩
  · exact win1_2.rect_emb_val_of_index_zero t a (h2 a) y
  · exact win1_3.rect_emb_val_of_index_zero t a (h3 a) y
  · exact win1_4.rect_emb_val_of_index_zero t a (h4 a) y
  · exact win1_5.rect_emb_val_of_index_zero t a (h5 a) y
  · exact win1_6.rect_emb_val_of_index_zero t a (h6 a) y

/-! ## The operands -/

variable (m : (ℓ : Loc nD τ sig) → Buf (Elt F) ℓ) (d : Dev nD)

/-- An argument as the launch finds it. -/
abbrev priceArg : FVec F S16384 .f32 := m ((d.tc : Thread nD τ).loc main_arg8)
abbrev w1Arg : FVec F S1025x1024 .f32 := m ((d.tc : Thread nD τ).loc main_arg17)
abbrev b1Arg : FVec F S1024 .f32 := m ((d.tc : Thread nD τ).loc main_arg18)
abbrev w2Arg : FVec F S1024x1024 .f32 := m ((d.tc : Thread nD τ).loc main_arg19)
abbrev b2Arg : FVec F S1024 .f32 := m ((d.tc : Thread nD τ).loc main_arg20)

theorem V2_args : V2 m d (Proc.devRef .tc main_arg8) = priceArg m d ∧ V2 m d (Proc.devRef .tc main_arg17) = w1Arg m d
    ∧ V2 m d (Proc.devRef .tc main_arg18) = b1Arg m d ∧ V2 m d (Proc.devRef .tc main_arg19) = w2Arg m d
    ∧ V2 m d (Proc.devRef .tc main_arg20) = b2Arg m d :=
  ⟨V2_unwritten m d (by decide) (by decide), V2_unwritten m d (by decide) (by decide), V2_unwritten m d (by decide) (by decide),
    V2_unwritten m d (by decide) (by decide), V2_unwritten m d (by decide) (by decide)⟩

theorem price_operand : priceOf (V3 m d) = broadcastInDim S16384x1 ![0] bcast_S16384_S16384x1_0 (priceArg m d) := by
  rw [← (V2_args m d).1]; unfold priceOf V3 opsB; after_results
theorem w1_operand : w1Of (V3 m d) = truncf .bf16 (extractStridedSlice S1024x1024 ![0, 0] (w1Arg m d) slices_S1025x1024_S1024x1024_0_0) bitsLt_bf16_f32 := by
  rw [← (V2_args m d).2.1]; unfold w1Of V3 opsB; after_results
theorem wp_operand : wpOf (V3 m d) = extractStridedSlice S1x1024 ![1024, 0] (w1Arg m d) slices_S1025x1024_S1x1024_1024_0 := by
  rw [← (V2_args m d).2.1]; unfold wpOf V3 opsB; after_results
theorem b1_operand : b1Of (V3 m d) = broadcastInDim S1x1024 ![1] bcast_S1024_S1x1024_1 (b1Arg m d) := by
  rw [← (V2_args m d).2.2.1]; unfold b1Of V3 opsB; after_results
theorem w2_operand : w2Of (V3 m d) = truncf .bf16 (w2Arg m d) bitsLt_bf16_f32 := by
  rw [← (V2_args m d).2.2.2.1]; unfold w2Of V3 opsB; after_results
theorem b2_operand : b2Of (V3 m d) = broadcastInDim S1x1024 ![1] bcast_S1024_S1x1024_1 (b2Arg m d) := by
  rw [← (V2_args m d).2.2.2.2]; unfold b2Of V3 opsB; after_results

theorem tables_operand : tabsOf (V1 m d) = tablesOf m d := by
  funext f
  fin_cases f <;> exact V1_unwritten m d (by decide)

/-! ## The result -/

variable (m : (ℓ : Loc nD τ sig) → Buf (Elt Ideal) ℓ) (d : Dev nD)

/-- The gathered rows, by the ids as they arrive. -/
theorem emb_operand (i : Fin 16384) (k : Fin 1024) : embOf (V3 m d) (ValueIdx.ix2 i k) = embRow (idsOf m d) (tablesOf m d) i k := by
  have h3 : embOf (V3 m d) = embG (tabsOf (V1 m d)) (C0 m d) := by
    unfold embOf
    rw [V3_unwritten m d (by decide)]
    exact Function.update_self ..
  have hi : C0 m d (featOf k) (ValueIdx.ix2 ⟨i.val / 128, by omega⟩ ⟨i.val % 128, Nat.mod_lt _ (by decide)⟩)
      = idsOf m d (featOf k) (ValueIdx.ix1 i) := by
    rw [C0_eq]
    refine shapeCast_apply _ _ _ _ ?_
    rw [Shape.rowMajor_val_one, Shape.rowMajor_val_two]
    show i.val = i.val / 128 * 128 + i.val % 128
    omega
  rw [h3, tables_operand]
  unfold embG embRow
  exact congrArg (fun v : BitVec 32 => tablesOf m d (featOf k) (ValueIdx.ix2 (tableRow v) (laneOf k))) hi

/-- The prices, weights and biases as the second stage reads them. -/
theorem price_at (i : Fin 16384) : priceOf (V3 m d) (ValueIdx.ix2 i 0) = priceArg m d (ValueIdx.ix1 i) := by
  rw [price_operand]
  exact broadcastInDim_apply _ _ _ _ _ fun a => match a with
    | ⟨0, _⟩ => rfl
theorem w1_at (c k : Fin 1024) : w1Of (V3 m d) (ValueIdx.ix2 c k) = w1Arg m d (ValueIdx.ix2 c.castSucc k) := by
  rw [w1_operand]
  show extractStridedSlice S1024x1024 ![0, 0] (w1Arg m d) slices_S1025x1024_S1024x1024_0_0 (ValueIdx.ix2 c k) = _
  exact extractStridedSlice_apply _ _ _ _ _ fun a => match a with
    | ⟨0, _⟩ => (Nat.zero_add _).symm
    | ⟨1, _⟩ => (Nat.zero_add _).symm
theorem wp_at (k : Fin 1024) : wpOf (V3 m d) (ValueIdx.ix2 0 k) = w1Arg m d (ValueIdx.ix2 (Fin.last 1024) k) := by
  rw [wp_operand]
  exact extractStridedSlice_apply _ _ _ _ _ fun a => match a with
    | ⟨0, _⟩ => rfl
    | ⟨1, _⟩ => (Nat.zero_add _).symm
theorem b1_at (k : Fin 1024) : b1Of (V3 m d) (ValueIdx.ix2 0 k) = b1Arg m d (ValueIdx.ix1 k) := by
  rw [b1_operand]
  exact broadcastInDim_apply _ _ _ _ _ fun a => match a with
    | ⟨0, _⟩ => rfl
theorem b2_at (k : Fin 1024) : b2Of (V3 m d) (ValueIdx.ix2 0 k) = b2Arg m d (ValueIdx.ix1 k) := by
  rw [b2_operand]
  exact broadcastInDim_apply _ _ _ _ _ fun a => match a with
    | ⟨0, _⟩ => rfl
theorem w2_at (k j : Fin 1024) : w2Of (V3 m d) (ValueIdx.ix2 k j) = w2Arg m d (ValueIdx.ix2 k j) := by
  rw [w2_operand]
  rfl

/-- The kernel's result. -/
theorem kernel_apply (i : Fin 16384) (j : Fin 1024) :
    mlpOut (V3 m) d (ValueIdx.ix2 i j)
      = scores (idsOf m d) (priceArg m d) (tablesOf m d) (w1Arg m d) (b1Arg m d) (w2Arg m d) (b2Arg m d) i j := by
  have ht : i.val / 512 < cfg1.N := by show _ < grid1.N; rw [N_1]; omega
  have hr : i.val % 512 < 512 := Nat.mod_lt _ (by decide)
  have hi : i.val = (⟨i.val / 512, ht⟩ : Fin cfg1.N).val * 512 + (⟨i.val % 512, hr⟩ : Fin 512).val := by
    show i.val = i.val / 512 * 512 + i.val % 512
    omega
  show mlpBlk (V3 m) d ⟨i.val / 512, ht⟩ (ValueIdx.ix2 ⟨i.val % 512, hr⟩ j) = _
  obtain ⟨e2, e3, e4, e5, e6⟩ := whole_blocks (V3 m) d ⟨i.val / 512, ht⟩
  unfold mlpBlk scores
  rw [e2, e3, e4, e5, e6, payload_apply, price_block (V3 m) d _ _ i hi, price_at]
  simp only [fun k => emb_block (V3 m) d _ ⟨i.val % 512, hr⟩ k i hi, emb_operand, w1_at, wp_at, b1_at, w2_at, b2_at]

end Cert.Proof

end
-- ==== Proof.Reference.lean ====
/-
  The reference's run and its result, element by element.
-/
module

public import proofs.«01_k».proof.Proof.Gen.ReferenceIdeal.Run
public import proofs.«01_k».proof.Proof.Gen.ReferenceIdeal.Read
public import proofs.«01_k».proof.Proof.Spec
public import Idealize.ShloMosaic.Lib.Pipeline.Value

@[expose] public section

noncomputable section

namespace Cert.Proof

open Cert.ReferenceIdeal Cert.ReferenceIdeal.Gen Cert.ReferenceIdeal.Read
open Idealize.ShloMosaic

variable {F : FTy → Type} [FloatOps F]

/-! ## One feature's rows -/

/-- The row of the table that a word below 100000 names. -/
theorem rows_apply (t : FVec F S100000x128 .f32) (x : IVec S16384x1 32) (i : S16384x128.Idx) (r : Fin 100000)
    (h : (x (ValueIdx.ix2 (i 0) 0)).toInt.toNat = r.val) :
    Host.gather gather_S100000x128_S16384x1_S16384x128_1_0_n_n_0_1_1128 t x i = t (ValueIdx.ix2 r (i 1)) := by
  unfold Host.gather
  congr 1
  funext a
  refine Fin.ext ?_
  set D := gather_S100000x128_S16384x1_S16384x128_1_0_n_n_0_1_1128 with hD
  have hb : D.batchCoord i a = 0 := GatherDims.batchCoord_eq_zero _ _ _ List.not_mem_nil
  show D.start i x a + D.batchCoord i a + D.offCoord i a = _
  rw [hb, Nat.add_zero]
  have ha : a = 0 ∨ a = 1 := by
    match a with
    | ⟨0, _⟩ => exact Or.inl rfl
    | ⟨1, _⟩ => exact Or.inr rfl
  rcases ha with rfl | rfl
  · rw [GatherDims.offCoord_eq_zero _ _ _ (fun hk => ((GatherDims.mem_sKept _ _).mp hk).1 (List.mem_singleton.mpr rfl)), Nat.add_zero]
    unfold GatherDims.start
    rw [dif_pos (show (0 : Fin 2) ∈ D.startIndexMap from List.mem_singleton.mpr rfl)]
    have hs : D.siIdx i ⟨List.idxOf (0 : Fin 2) D.startIndexMap, List.idxOf_lt_length_iff.2 (List.mem_singleton.mpr rfl)⟩
        = ValueIdx.ix2 (i 0) 0 := by
      funext b
      refine Fin.ext ?_
      match b with
      | ⟨0, _⟩ => rfl
      | ⟨1, _⟩ => rfl
    rw [hs]
    refine (congrArg (min · _) h).trans ?_
    exact min_eq_left (by have := r.isLt; show r.val ≤ 100000 - 1; omega)
  · have hz : D.start i x 1 = 0 := by
      unfold GatherDims.start
      rw [dif_neg (show ¬(1 : Fin 2) ∈ D.startIndexMap by decide)]
    rw [hz, Nat.zero_add]
    rfl

/-- The test that a word is an id, and the word the test leaves when it passes. -/
theorem id_word (v : BitVec 32) (h : v.toNat < 100000) :
    IntOp.cmpi .slt v 0#32 = 0#1 ∧ IntOp.cmpi .sge v 0#32 = 1#1 ∧ IntOp.cmpi .sle v 99999#32 = 1#1 ∧ v.toInt.toNat = v.toNat := by
  have e : v.toInt = (v.toNat : Int) := by rw [BitVec.toInt_eq_toNat_cond, if_pos (by omega)]
  refine ⟨ValueIdx.eq_zero_of_ne_one fun hc => ?_, IntOp.cmpi_sge.2 ?_, IntOp.cmpi_sle.2 ?_, by omega⟩
  · have := IntOp.cmpi_slt.1 hc
    simp only [e, BitVec.toInt_eq_toNat_cond, BitVec.toNat_ofNat, Nat.reducePow, Nat.reduceMod] at this
    omega
  · simp only [e, BitVec.toInt_eq_toNat_cond, BitVec.toNat_ofNat, Nat.reducePow, Nat.reduceMod]
    omega
  · simp only [e, BitVec.toInt_eq_toNat_cond, BitVec.toNat_ofNat, Nat.reducePow, Nat.reduceMod]
    omega

/-- The ids after negative ones are wrapped: none is. -/
theorem wrapped_eq (x : IVec S16384 32) (hx : ∀ j, (x j).toNat < 100000) (j : S16384x1.Idx) :
    val_main_call0_v5 (F := F) x j = x (ValueIdx.ix1 (j 0)) := by
  rw [val_main_call0_v5_apply, val_main_call0_v4_apply, val_main_call0_v1_apply, val_main_call0_v0_apply, val_main_call0_c_apply,
    (id_word _ (hx _)).1, ValueIdx.select_zero]
  congr 1
  funext a
  match a with
  | ⟨0, _⟩ => rfl

/-- A take of in-range ids is the rows they name. -/
theorem take_apply (x : IVec S16384 32) (t : FVec F S100000x128 .f32) (hx : ∀ j, (x j).toNat < 100000) (i : S16384x128.Idx) :
    val_main_v0 (F := F) x t i = t (ValueIdx.ix2 ⟨(x (ValueIdx.ix1 (i 0))).toNat, hx _⟩ (i 1)) := by
  have hm : val_main_call0_v14 (F := F) x i = 1#1 := by
    rw [val_main_call0_v14_apply]
    refine Host.reduce_andi_one _ _ _ _ _ rfl fun k => ?_
    rw [val_main_call0_v11_apply, val_main_call0_v7_apply, val_main_call0_v10_apply, wrapped_eq x hx,
      val_main_call0_v6_apply, val_main_call0_v9_apply, val_main_call0_v8_apply, val_main_call0_c_1_apply, val_main_call0_c_2_apply,
      (id_word _ (hx _)).2.1, (id_word _ (hx _)).2.2.1]
    rfl
  rw [val_main_v0_apply, hm, ValueIdx.select_one]
  refine rows_apply t _ i _ ?_
  rw [wrapped_eq x hx]
  exact (id_word _ (hx _)).2.2.2

/-- The rows of features side by side, and the prices beside them. -/
def joined (x : Fin 8 → IVec S16384 32) (p : FVec F S16384 .f32) (t : Fin 8 → FVec F S100000x128 .f32) : FVec F S16384x1025 .f32 :=
  val_main_v9 (F := F) (x 0) (x 1) (x 2) (x 3) (x 4) (x 5) (x 6) (x 7) p (t 0) (t 1) (t 2) (t 3) (t 4) (t 5) (t 6) (t 7)

/-- A feature's columns. -/
theorem joined_feature (x : Fin 8 → IVec S16384 32) (p : FVec F S16384 .f32) (t : Fin 8 → FVec F S100000x128 .f32)
    (f : Fin 8) (i : Fin 16384) (l : Fin 128) (c : Fin 1025) (hc : c.val = f.val * 128 + l.val) :
    joined x p t (ValueIdx.ix2 i c) = val_main_v0 (F := F) (x f) (t f) (ValueIdx.ix2 i l) := by
  unfold joined val_main_v9
  refine concatenate_apply_piece (t := S16384x1025) 1 _ _ _ f.val ?_ S16384x128 (val_main_v0 (F := F) (x f) (t f)) ?_ rfl
    (f.val * 128) ?_ (ValueIdx.ix2 i l) ?_ ?_
  · show f.val < 9
    omega
  · match f with
    | 0 | 1 | 2 | 3 | 4 | 5 | 6 | 7 => rfl
  · match f with
    | 0 | 1 | 2 | 3 | 4 | 5 | 6 | 7 => rfl
  · intro b hb
    match b with
    | ⟨0, _⟩ => rfl
    | ⟨1, _⟩ => exact absurd rfl hb
  · exact hc.symm

/-- The last column. -/
theorem joined_price (x : Fin 8 → IVec S16384 32) (p : FVec F S16384 .f32) (t : Fin 8 → FVec F S100000x128 .f32) (i : Fin 16384) :
    joined x p t (ValueIdx.ix2 i (Fin.last 1024)) = p (ValueIdx.ix1 i) := by
  unfold joined val_main_v9
  refine (concatenate_apply_piece (t := S16384x1025) 1 _ _ _ 8 ?_ S16384x1 (val_main_v8 (F := F) p) ?_ rfl
    1024 ?_ (ValueIdx.ix2 i 0) ?_ ?_).trans ?_
  · show 8 < 9
    omega
  · rfl
  · rfl
  · intro b hb
    match b with
    | ⟨0, _⟩ => rfl
    | ⟨1, _⟩ => exact absurd rfl hb
  · rfl
  · rw [val_main_v8_apply]
    congr 1
    funext a
    match a with
    | ⟨0, _⟩ => rfl

/-! ## The result over the extended reals -/

/-- An embedding's column of the joined rows. -/
theorem joined_emb (x : Fin 8 → IVec S16384 32) (hx : IdsOk x) (p : FVec Ideal S16384 .f32) (t : Fin 8 → FVec Ideal S100000x128 .f32)
    (i : Fin 16384) (c : Fin 1024) : joined x p t (ValueIdx.ix2 i c.castSucc) = embRow x t i c := by
  rw [joined_feature x p t (featOf c) i (laneOf c) c.castSucc (by simp only [featOf, laneOf, Fin.val_castSucc]; omega),
    take_apply _ _ (hx _)]
  unfold embRow
  congr 2
  exact Fin.ext (Nat.mod_eq_of_lt (hx _ _)).symm

/-- The reference's result. -/
theorem reference_apply (x : Fin 8 → IVec S16384 32) (hx : IdsOk x) (p : FVec Ideal S16384 .f32) (t : Fin 8 → FVec Ideal S100000x128 .f32)
    (w1 : FVec Ideal S1025x1024 .f32) (b1 : FVec Ideal S1024 .f32) (w2 : FVec Ideal S1024x1024 .f32) (b2 : FVec Ideal S1024 .f32)
    (i : Fin 16384) (j : Fin 1024) :
    val_main_v21 (F := Ideal) (x 0) (x 1) (x 2) (x 3) (x 4) (x 5) (x 6) (x 7) p (t 0) (t 1) (t 2) (t 3) (t 4) (t 5) (t 6) (t 7)
      w1 b1 w2 b2 (ValueIdx.ix2 i j) = scores x p t w1 b1 w2 b2 i j := by
  have hz : ∀ y, val_main_v14 (F := Ideal) y = (0 : EReal) := fun y => by
    rw [val_main_v14_apply, val_main_cst_apply]; exact Ideal.ofBits_zero_f32
  have hz' : ∀ y, val_main_v20 (F := Ideal) y = (0 : EReal) := fun y => by
    rw [val_main_v20_apply, val_main_cst_0_apply]; exact Ideal.ofBits_zero_f32
  have hh : ∀ k : Fin 1024, val_main_v15 (F := Ideal) (x 0) (x 1) (x 2) (x 3) (x 4) (x 5) (x 6) (x 7) p (t 0) (t 1) (t 2) (t 3) (t 4)
      (t 5) (t 6) (t 7) w1 b1 (lidx_main_v16 (ValueIdx.ix2 i j) k)
        = hidden (embRow x t i) (p (ValueIdx.ix1 i)) (fun c k => w1 (ValueIdx.ix2 c.castSucc k)) (fun k => w1 (ValueIdx.ix2 (Fin.last 1024) k))
            (fun k => b1 (ValueIdx.ix1 k)) k := by
    intro k
    rw [val_main_v15_apply, val_main_v13_apply, hz, val_main_v12_apply, val_main_v11_apply, val_main_v10_apply, Fin.sum_univ_castSucc,
      idx1_eq (idx_main_v11 _) k rfl,
      idx2_eq (lidx_main_v10 (lidx_main_v16 (ValueIdx.ix2 i j) k) (Fin.last 1024)) i (Fin.last 1024) rfl rfl,
      idx2_eq (ridx_main_v10 (lidx_main_v16 (ValueIdx.ix2 i j) k) (Fin.last 1024)) (Fin.last 1024) k rfl rfl]
    have hs : ∀ c : Fin 1024, joined x p t (lidx_main_v10 (lidx_main_v16 (ValueIdx.ix2 i j) k) c.castSucc)
        * w1 (ridx_main_v10 (lidx_main_v16 (ValueIdx.ix2 i j) k) c.castSucc) = embRow x t i c * w1 (ValueIdx.ix2 c.castSucc k) := fun c => by
      rw [idx2_eq (lidx_main_v10 (lidx_main_v16 (ValueIdx.ix2 i j) k) c.castSucc) i c.castSucc rfl rfl,
        idx2_eq (ridx_main_v10 (lidx_main_v16 (ValueIdx.ix2 i j) k) c.castSucc) c.castSucc k rfl rfl, joined_emb x hx]
    have hp := joined_price x p t i
    unfold joined at hs hp
    rw [Finset.sum_congr rfl fun c _ => hs c, hp]
    rfl
  rw [val_main_v21_apply, val_main_v19_apply, hz', val_main_v18_apply, val_main_v17_apply, val_main_v16_apply,
    Finset.sum_congr rfl fun k _ => by rw [hh k, idx2_eq (ridx_main_v16 (ValueIdx.ix2 i j) k) k j rfl rfl],
    idx1_eq (idx_main_v17 _) j rfl]
  rfl

end Cert.Proof

end
-- ==== Proof.Results.lean ====
/-
  The reference's frames, and the two results compared: the kernel's and the reference's are the network's scores of the same
  arguments.
-/
module

public import proofs.«01_k».proof.Proof.Equation
public import proofs.«01_k».proof.Proof.Reference

@[expose] public section

noncomputable section

namespace Cert.Proof

open Idealize.ShloMosaic Idealize.SL.Sem

/-- The reference declares no semaphore and leaves its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the kernel's precondition. -/
theorem frame_reference_pre : Cert.quiescent_ReferenceIdeal_pre_ids_in_range := fun m ρ _ => frame_reference m ρ trivial

/-- From arguments that agree the two programs end with equal results. -/
theorem results_agree : Cert.algebraic_KernelIdeal_ReferenceIdeal := by
  intro m ρ m' ρ' hpre hagree
  have hids := fun d => ids_of_pre (F := Ideal) m d (hpre d)
  refine ⟨fun c => V4 m c (Proc.devRef .tc Cert.KernelIdeal.main_v16), ?_, ?_⟩
  · exact (θ_run (Cert.KernelIdeal.defs (F := Ideal)) _ _).mono
      (fun _ h c => ⟨h.1 c (Proc.devRef .tc Cert.KernelIdeal.main_v16) (by decide), args_chain m h c⟩) (run_ids (F := Ideal) m ρ hids)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v21_eq (F := Ideal) (StableHlo.launchContents m' c)).trans ?_
    obtain ⟨a0, a1, a2, a3, a4, a5, a6, a7, a8, a9, a10, a11, a12, a13, a14, a15, a16, a17, a18, a19, a20⟩ := hagree c
    refine Eq.trans ?_ (mlpAfter_out (V3 m) c).symm
    funext x
    obtain ⟨i, j, rfl⟩ : ∃ (i : Fin 16384) (j : Fin 1024), x = ValueIdx.ix2 i j := ⟨x 0, x 1, idx2_eq x _ _ rfl rfl⟩
    refine Eq.trans ?_ ((reference_apply (idsOf m c) (hids c) (priceArg m c) (tablesOf m c) (w1Arg m c) (b1Arg m c) (w2Arg m c)
      (b2Arg m c) i j).trans (kernel_apply m c i j).symm)
    refine congrFun ?_ (ValueIdx.ix2 i j)
    rw [show idsOf m c 0 = _ from a0.symm, show idsOf m c 1 = _ from a1.symm, show idsOf m c 2 = _ from a2.symm, show idsOf m c 3 = _ from a3.symm,
      show idsOf m c 4 = _ from a4.symm, show idsOf m c 5 = _ from a5.symm, show idsOf m c 6 = _ from a6.symm, show idsOf m c 7 = _ from a7.symm,
      show priceArg m c = _ from a8.symm, show tablesOf m c 0 = _ from a9.symm, show tablesOf m c 1 = _ from a10.symm, show tablesOf m c 2 = _ from a11.symm,
      show tablesOf m c 3 = _ from a12.symm, show tablesOf m c 4 = _ from a13.symm, show tablesOf m c 5 = _ from a14.symm, show tablesOf m c 6 = _ from a15.symm,
      show tablesOf m c 7 = _ from a16.symm, show w1Arg m c = _ from a17.symm, show b1Arg m c = _ from a18.symm, show w2Arg m c = _ from a19.symm,
      show b2Arg m c = _ from a20.symm]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ids_in_range
public import proofs.«01_k».proof.Proof.Results
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  frame_kernel, frame_kernelIdeal, frame_reference, frame_reference_pre, trivial, results_agree⟩

end Cert.Proof

end
